-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_normal_rows [hPre_normal_rows : Cert.Pre_normal_rows.Facts] (m : (ℓ : Loc Cert.KernelIdeal.nD Cert.KernelIdeal.τ Cert.KernelIdeal.sig) → Buf (Elt Ideal) ℓ) : Prop :=
  ∀ c : Dev Cert.KernelIdeal.nD,
    (Cert.Pre_normal_rows.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_normal_rows [hPre_normal_rows : Cert.Pre_normal_rows.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_normal_rows.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_Dw (m : (ℓ : Loc Cert.Dw.nD Cert.Dw.τ Cert.Dw.sig) → Buf (Elt Bits) ℓ) : Prop :=
  True

def Pre_DwIdeal (m : (ℓ : Loc Cert.DwIdeal.nD Cert.DwIdeal.τ Cert.DwIdeal.sig) → Buf (Elt Ideal) ℓ) : Prop :=
  True

def Pre_DwIdeal_normal_rows [hPre_normal_rows : Cert.Pre_normal_rows.Facts] (m : (ℓ : Loc Cert.DwIdeal.nD Cert.DwIdeal.τ Cert.DwIdeal.sig) → Buf (Elt Ideal) ℓ) : Prop :=
  ∀ c : Dev Cert.DwIdeal.nD,
    (Cert.Pre_normal_rows.fn (F := Ideal) (m ((c.tc : Thread Cert.DwIdeal.nD Cert.DwIdeal.τ).loc Cert.DwIdeal.main_arg0)) (m ((c.tc : Thread Cert.DwIdeal.nD Cert.DwIdeal.τ).loc Cert.DwIdeal.main_arg1)) (m ((c.tc : Thread Cert.DwIdeal.nD Cert.DwIdeal.τ).loc Cert.DwIdeal.main_arg2))) = (fun _ => 1#1)

def Pre_DwRefIdeal (m : (ℓ : Loc Cert.DwRefIdeal.nD Cert.DwRefIdeal.τ Cert.DwRefIdeal.sig) → Buf (Elt Ideal) ℓ) : Prop :=
  True

def Pre_DwRefIdeal_normal_rows [hPre_normal_rows : Cert.Pre_normal_rows.Facts] (m : (ℓ : Loc Cert.DwRefIdeal.nD Cert.DwRefIdeal.τ Cert.DwRefIdeal.sig) → Buf (Elt Ideal) ℓ) : Prop :=
  ∀ c : Dev Cert.DwRefIdeal.nD,
    (Cert.Pre_normal_rows.fn (F := Ideal) (m ((c.tc : Thread Cert.DwRefIdeal.nD Cert.DwRefIdeal.τ).loc Cert.DwRefIdeal.main_arg0)) (m ((c.tc : Thread Cert.DwRefIdeal.nD Cert.DwRefIdeal.τ).loc Cert.DwRefIdeal.main_arg1)) (m ((c.tc : Thread Cert.DwRefIdeal.nD Cert.DwRefIdeal.τ).loc Cert.DwRefIdeal.main_arg2))) = (fun _ => 1#1)

def Pre_Y (m : (ℓ : Loc Cert.Y.nD Cert.Y.τ Cert.Y.sig) → Buf (Elt Bits) ℓ) : Prop :=
  True

def Pre_YIdeal (m : (ℓ : Loc Cert.YIdeal.nD Cert.YIdeal.τ Cert.YIdeal.sig) → Buf (Elt Ideal) ℓ) : Prop :=
  True

def Pre_YRefIdeal (m : (ℓ : Loc Cert.YRefIdeal.nD Cert.YRefIdeal.τ Cert.YRefIdeal.sig) → Buf (Elt Ideal) ℓ) : Prop :=
  True

def Pre_Dx (m : (ℓ : Loc Cert.Dx.nD Cert.Dx.τ Cert.Dx.sig) → Buf (Elt Bits) ℓ) : Prop :=
  True

def Pre_DxIdeal (m : (ℓ : Loc Cert.DxIdeal.nD Cert.DxIdeal.τ Cert.DxIdeal.sig) → Buf (Elt Ideal) ℓ) : Prop :=
  True

def Pre_DxRefIdeal (m : (ℓ : Loc Cert.DxRefIdeal.nD Cert.DxRefIdeal.τ Cert.DxRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_normal_rows [hKernelIdeal : Cert.KernelIdeal.Facts] [hPre_normal_rows : Cert.Pre_normal_rows.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_normal_rows m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_normal_rows [hReferenceIdeal : Cert.ReferenceIdeal.Facts] [hPre_normal_rows : Cert.Pre_normal_rows.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_normal_rows m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Dw [hDw : Cert.Dw.Facts] : Prop :=
  ∀ (m : (ℓ : Loc Cert.Dw.nD Cert.Dw.τ Cert.Dw.sig) → Buf (Elt Bits) ℓ) (g : Dev Cert.Dw.nD → PrngReg), Pre_Dw m →
    θ_run (Cert.Dw.defs (F := Bits)) (onTc (τ := Cert.Dw.τ) (Cert.Dw.main (F := Bits))) ⟨m, fun _ => 0, g⟩ (fun r => (∀ c : Dev Cert.Dw.nD,
      r.2.mem ((c.tc : Thread Cert.Dw.nD Cert.Dw.τ).loc Cert.Dw.main_arg0) = m ((c.tc : Thread Cert.Dw.nD Cert.Dw.τ).loc Cert.Dw.main_arg0)
      ∧ r.2.mem ((c.tc : Thread Cert.Dw.nD Cert.Dw.τ).loc Cert.Dw.main_arg1) = m ((c.tc : Thread Cert.Dw.nD Cert.Dw.τ).loc Cert.Dw.main_arg1)
      ∧ r.2.mem ((c.tc : Thread Cert.Dw.nD Cert.Dw.τ).loc Cert.Dw.main_arg2) = m ((c.tc : Thread Cert.Dw.nD Cert.Dw.τ).loc Cert.Dw.main_arg2))
      ∧ r.2.sem = fun _ => 0)

def quiescent_DwIdeal [hDwIdeal : Cert.DwIdeal.Facts] : Prop :=
  ∀ (m : (ℓ : Loc Cert.DwIdeal.nD Cert.DwIdeal.τ Cert.DwIdeal.sig) → Buf (Elt Ideal) ℓ) (g : Dev Cert.DwIdeal.nD → PrngReg), Pre_DwIdeal m →
    θ_run (Cert.DwIdeal.defs (F := Ideal)) (onTc (τ := Cert.DwIdeal.τ) (Cert.DwIdeal.main (F := Ideal))) ⟨m, fun _ => 0, g⟩ (fun r => (∀ c : Dev Cert.DwIdeal.nD,
      r.2.mem ((c.tc : Thread Cert.DwIdeal.nD Cert.DwIdeal.τ).loc Cert.DwIdeal.main_arg0) = m ((c.tc : Thread Cert.DwIdeal.nD Cert.DwIdeal.τ).loc Cert.DwIdeal.main_arg0)
      ∧ r.2.mem ((c.tc : Thread Cert.DwIdeal.nD Cert.DwIdeal.τ).loc Cert.DwIdeal.main_arg1) = m ((c.tc : Thread Cert.DwIdeal.nD Cert.DwIdeal.τ).loc Cert.DwIdeal.main_arg1)
      ∧ r.2.mem ((c.tc : Thread Cert.DwIdeal.nD Cert.DwIdeal.τ).loc Cert.DwIdeal.main_arg2) = m ((c.tc : Thread Cert.DwIdeal.nD Cert.DwIdeal.τ).loc Cert.DwIdeal.main_arg2))
      ∧ r.2.sem = fun _ => 0)

def quiescent_DwIdeal_pre_normal_rows [hDwIdeal : Cert.DwIdeal.Facts] [hPre_normal_rows : Cert.Pre_normal_rows.Facts] : Prop :=
  ∀ (m : (ℓ : Loc Cert.DwIdeal.nD Cert.DwIdeal.τ Cert.DwIdeal.sig) → Buf (Elt Ideal) ℓ) (g : Dev Cert.DwIdeal.nD → PrngReg), Pre_DwIdeal_normal_rows m →
    θ_run (Cert.DwIdeal.defs (F := Ideal)) (onTc (τ := Cert.DwIdeal.τ) (Cert.DwIdeal.main (F := Ideal))) ⟨m, fun _ => 0, g⟩ (fun r => (∀ c : Dev Cert.DwIdeal.nD,
      r.2.mem ((c.tc : Thread Cert.DwIdeal.nD Cert.DwIdeal.τ).loc Cert.DwIdeal.main_arg0) = m ((c.tc : Thread Cert.DwIdeal.nD Cert.DwIdeal.τ).loc Cert.DwIdeal.main_arg0)
      ∧ r.2.mem ((c.tc : Thread Cert.DwIdeal.nD Cert.DwIdeal.τ).loc Cert.DwIdeal.main_arg1) = m ((c.tc : Thread Cert.DwIdeal.nD Cert.DwIdeal.τ).loc Cert.DwIdeal.main_arg1)
      ∧ r.2.mem ((c.tc : Thread Cert.DwIdeal.nD Cert.DwIdeal.τ).loc Cert.DwIdeal.main_arg2) = m ((c.tc : Thread Cert.DwIdeal.nD Cert.DwIdeal.τ).loc Cert.DwIdeal.main_arg2))
      ∧ r.2.sem = fun _ => 0)

def quiescent_DwRefIdeal [hDwRefIdeal : Cert.DwRefIdeal.Facts] : Prop :=
  ∀ (m : (ℓ : Loc Cert.DwRefIdeal.nD Cert.DwRefIdeal.τ Cert.DwRefIdeal.sig) → Buf (Elt Ideal) ℓ) (g : Dev Cert.DwRefIdeal.nD → PrngReg), Pre_DwRefIdeal m →
    θ_run (Cert.DwRefIdeal.defs (F := Ideal)) (onTc (τ := Cert.DwRefIdeal.τ) (Cert.DwRefIdeal.main (F := Ideal))) ⟨m, fun _ => 0, g⟩ (fun r => (∀ c : Dev Cert.DwRefIdeal.nD,
      r.2.mem ((c.tc : Thread Cert.DwRefIdeal.nD Cert.DwRefIdeal.τ).loc Cert.DwRefIdeal.main_arg0) = m ((c.tc : Thread Cert.DwRefIdeal.nD Cert.DwRefIdeal.τ).loc Cert.DwRefIdeal.main_arg0)
      ∧ r.2.mem ((c.tc : Thread Cert.DwRefIdeal.nD Cert.DwRefIdeal.τ).loc Cert.DwRefIdeal.main_arg1) = m ((c.tc : Thread Cert.DwRefIdeal.nD Cert.DwRefIdeal.τ).loc Cert.DwRefIdeal.main_arg1)
      ∧ r.2.mem ((c.tc : Thread Cert.DwRefIdeal.nD Cert.DwRefIdeal.τ).loc Cert.DwRefIdeal.main_arg2) = m ((c.tc : Thread Cert.DwRefIdeal.nD Cert.DwRefIdeal.τ).loc Cert.DwRefIdeal.main_arg2))
      ∧ r.2.sem = fun _ => 0)

def quiescent_DwRefIdeal_pre_normal_rows [hDwRefIdeal : Cert.DwRefIdeal.Facts] [hPre_normal_rows : Cert.Pre_normal_rows.Facts] : Prop :=
  ∀ (m : (ℓ : Loc Cert.DwRefIdeal.nD Cert.DwRefIdeal.τ Cert.DwRefIdeal.sig) → Buf (Elt Ideal) ℓ) (g : Dev Cert.DwRefIdeal.nD → PrngReg), Pre_DwRefIdeal_normal_rows m →
    θ_run (Cert.DwRefIdeal.defs (F := Ideal)) (onTc (τ := Cert.DwRefIdeal.τ) (Cert.DwRefIdeal.main (F := Ideal))) ⟨m, fun _ => 0, g⟩ (fun r => (∀ c : Dev Cert.DwRefIdeal.nD,
      r.2.mem ((c.tc : Thread Cert.DwRefIdeal.nD Cert.DwRefIdeal.τ).loc Cert.DwRefIdeal.main_arg0) = m ((c.tc : Thread Cert.DwRefIdeal.nD Cert.DwRefIdeal.τ).loc Cert.DwRefIdeal.main_arg0)
      ∧ r.2.mem ((c.tc : Thread Cert.DwRefIdeal.nD Cert.DwRefIdeal.τ).loc Cert.DwRefIdeal.main_arg1) = m ((c.tc : Thread Cert.DwRefIdeal.nD Cert.DwRefIdeal.τ).loc Cert.DwRefIdeal.main_arg1)
      ∧ r.2.mem ((c.tc : Thread Cert.DwRefIdeal.nD Cert.DwRefIdeal.τ).loc Cert.DwRefIdeal.main_arg2) = m ((c.tc : Thread Cert.DwRefIdeal.nD Cert.DwRefIdeal.τ).loc Cert.DwRefIdeal.main_arg2))
      ∧ r.2.sem = fun _ => 0)

def quiescent_Y [hY : Cert.Y.Facts] : Prop :=
  ∀ (m : (ℓ : Loc Cert.Y.nD Cert.Y.τ Cert.Y.sig) → Buf (Elt Bits) ℓ) (g : Dev Cert.Y.nD → PrngReg), Pre_Y m →
    θ_run (Cert.Y.defs (F := Bits)) (onTc (τ := Cert.Y.τ) (Cert.Y.main (F := Bits))) ⟨m, fun _ => 0, g⟩ (fun r => (∀ c : Dev Cert.Y.nD,
      r.2.mem ((c.tc : Thread Cert.Y.nD Cert.Y.τ).loc Cert.Y.main_arg0) = m ((c.tc : Thread Cert.Y.nD Cert.Y.τ).loc Cert.Y.main_arg0)
      ∧ r.2.mem ((c.tc : Thread Cert.Y.nD Cert.Y.τ).loc Cert.Y.main_arg1) = m ((c.tc : Thread Cert.Y.nD Cert.Y.τ).loc Cert.Y.main_arg1))
      ∧ r.2.sem = fun _ => 0)

def quiescent_YIdeal [hYIdeal : Cert.YIdeal.Facts] : Prop :=
  ∀ (m : (ℓ : Loc Cert.YIdeal.nD Cert.YIdeal.τ Cert.YIdeal.sig) → Buf (Elt Ideal) ℓ) (g : Dev Cert.YIdeal.nD → PrngReg), Pre_YIdeal m →
    θ_run (Cert.YIdeal.defs (F := Ideal)) (onTc (τ := Cert.YIdeal.τ) (Cert.YIdeal.main (F := Ideal))) ⟨m, fun _ => 0, g⟩ (fun r => (∀ c : Dev Cert.YIdeal.nD,
      r.2.mem ((c.tc : Thread Cert.YIdeal.nD Cert.YIdeal.τ).loc Cert.YIdeal.main_arg0) = m ((c.tc : Thread Cert.YIdeal.nD Cert.YIdeal.τ).loc Cert.YIdeal.main_arg0)
      ∧ r.2.mem ((c.tc : Thread Cert.YIdeal.nD Cert.YIdeal.τ).loc Cert.YIdeal.main_arg1) = m ((c.tc : Thread Cert.YIdeal.nD Cert.YIdeal.τ).loc Cert.YIdeal.main_arg1))
      ∧ r.2.sem = fun _ => 0)

def quiescent_YRefIdeal [hYRefIdeal : Cert.YRefIdeal.Facts] : Prop :=
  ∀ (m : (ℓ : Loc Cert.YRefIdeal.nD Cert.YRefIdeal.τ Cert.YRefIdeal.sig) → Buf (Elt Ideal) ℓ) (g : Dev Cert.YRefIdeal.nD → PrngReg), Pre_YRefIdeal m →
    θ_run (Cert.YRefIdeal.defs (F := Ideal)) (onTc (τ := Cert.YRefIdeal.τ) (Cert.YRefIdeal.main (F := Ideal))) ⟨m, fun _ => 0, g⟩ (fun r => (∀ c : Dev Cert.YRefIdeal.nD,
      r.2.mem ((c.tc : Thread Cert.YRefIdeal.nD Cert.YRefIdeal.τ).loc Cert.YRefIdeal.main_arg0) = m ((c.tc : Thread Cert.YRefIdeal.nD Cert.YRefIdeal.τ).loc Cert.YRefIdeal.main_arg0)
      ∧ r.2.mem ((c.tc : Thread Cert.YRefIdeal.nD Cert.YRefIdeal.τ).loc Cert.YRefIdeal.main_arg1) = m ((c.tc : Thread Cert.YRefIdeal.nD Cert.YRefIdeal.τ).loc Cert.YRefIdeal.main_arg1))
      ∧ r.2.sem = fun _ => 0)

def quiescent_Dx [hDx : Cert.Dx.Facts] : Prop :=
  ∀ (m : (ℓ : Loc Cert.Dx.nD Cert.Dx.τ Cert.Dx.sig) → Buf (Elt Bits) ℓ) (g : Dev Cert.Dx.nD → PrngReg), Pre_Dx m →
    θ_run (Cert.Dx.defs (F := Bits)) (onTc (τ := Cert.Dx.τ) (Cert.Dx.main (F := Bits))) ⟨m, fun _ => 0, g⟩ (fun r => (∀ c : Dev Cert.Dx.nD,
      r.2.mem ((c.tc : Thread Cert.Dx.nD Cert.Dx.τ).loc Cert.Dx.main_arg0) = m ((c.tc : Thread Cert.Dx.nD Cert.Dx.τ).loc Cert.Dx.main_arg0)
      ∧ r.2.mem ((c.tc : Thread Cert.Dx.nD Cert.Dx.τ).loc Cert.Dx.main_arg1) = m ((c.tc : Thread Cert.Dx.nD Cert.Dx.τ).loc Cert.Dx.main_arg1))
      ∧ r.2.sem = fun _ => 0)

def quiescent_DxIdeal [hDxIdeal : Cert.DxIdeal.Facts] : Prop :=
  ∀ (m : (ℓ : Loc Cert.DxIdeal.nD Cert.DxIdeal.τ Cert.DxIdeal.sig) → Buf (Elt Ideal) ℓ) (g : Dev Cert.DxIdeal.nD → PrngReg), Pre_DxIdeal m →
    θ_run (Cert.DxIdeal.defs (F := Ideal)) (onTc (τ := Cert.DxIdeal.τ) (Cert.DxIdeal.main (F := Ideal))) ⟨m, fun _ => 0, g⟩ (fun r => (∀ c : Dev Cert.DxIdeal.nD,
      r.2.mem ((c.tc : Thread Cert.DxIdeal.nD Cert.DxIdeal.τ).loc Cert.DxIdeal.main_arg0) = m ((c.tc : Thread Cert.DxIdeal.nD Cert.DxIdeal.τ).loc Cert.DxIdeal.main_arg0)
      ∧ r.2.mem ((c.tc : Thread Cert.DxIdeal.nD Cert.DxIdeal.τ).loc Cert.DxIdeal.main_arg1) = m ((c.tc : Thread Cert.DxIdeal.nD Cert.DxIdeal.τ).loc Cert.DxIdeal.main_arg1))
      ∧ r.2.sem = fun _ => 0)

def quiescent_DxRefIdeal [hDxRefIdeal : Cert.DxRefIdeal.Facts] : Prop :=
  ∀ (m : (ℓ : Loc Cert.DxRefIdeal.nD Cert.DxRefIdeal.τ Cert.DxRefIdeal.sig) → Buf (Elt Ideal) ℓ) (g : Dev Cert.DxRefIdeal.nD → PrngReg), Pre_DxRefIdeal m →
    θ_run (Cert.DxRefIdeal.defs (F := Ideal)) (onTc (τ := Cert.DxRefIdeal.τ) (Cert.DxRefIdeal.main (F := Ideal))) ⟨m, fun _ => 0, g⟩ (fun r => (∀ c : Dev Cert.DxRefIdeal.nD,
      r.2.mem ((c.tc : Thread Cert.DxRefIdeal.nD Cert.DxRefIdeal.τ).loc Cert.DxRefIdeal.main_arg0) = m ((c.tc : Thread Cert.DxRefIdeal.nD Cert.DxRefIdeal.τ).loc Cert.DxRefIdeal.main_arg0)
      ∧ r.2.mem ((c.tc : Thread Cert.DxRefIdeal.nD Cert.DxRefIdeal.τ).loc Cert.DxRefIdeal.main_arg1) = m ((c.tc : Thread Cert.DxRefIdeal.nD Cert.DxRefIdeal.τ).loc Cert.DxRefIdeal.main_arg1))
      ∧ r.2.sem = fun _ => 0)

def preserves_Kernel_KernelIdeal : Prop :=
  True

def preserves_Dw_DwIdeal : Prop :=
  True

def preserves_Y_YIdeal : Prop :=
  True

def preserves_Dx_DxIdeal : Prop :=
  True

def algebraic_KernelIdeal_ReferenceIdeal_pre_normal_rows [hKernelIdeal : Cert.KernelIdeal.Facts] [hReferenceIdeal : Cert.ReferenceIdeal.Facts] [hPre_normal_rows : Cert.Pre_normal_rows.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_normal_rows m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v5)) (v1 : (c : Dev Cert.KernelIdeal.nD) → Buf (Elt Ideal) ((c.tc : Thread Cert.KernelIdeal.nD Cert.KernelIdeal.τ).loc Cert.KernelIdeal.main_v6)) (v2 : (c : Dev Cert.KernelIdeal.nD) → Buf (Elt Ideal) ((c.tc : Thread Cert.KernelIdeal.nD Cert.KernelIdeal.τ).loc Cert.KernelIdeal.main_v2_0)) (v3 : (c : Dev Cert.KernelIdeal.nD) → Buf (Elt Ideal) ((c.tc : Thread Cert.KernelIdeal.nD Cert.KernelIdeal.τ).loc Cert.KernelIdeal.main_v2_1)) (v4 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_v6) = v1 c
          ∧ r.2.mem ((c.tc : Thread Cert.KernelIdeal.nD Cert.KernelIdeal.τ).loc Cert.KernelIdeal.main_v2_0) = v2 c
          ∧ r.2.mem ((c.tc : Thread Cert.KernelIdeal.nD Cert.KernelIdeal.τ).loc Cert.KernelIdeal.main_v2_1) = v3 c
          ∧ r.2.mem ((c.tc : Thread Cert.KernelIdeal.nD Cert.KernelIdeal.τ).loc Cert.KernelIdeal.main_v7) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2) = v0 c
          ∧ r.2.mem ((c.tc : Thread Cert.ReferenceIdeal.nD Cert.ReferenceIdeal.τ).loc Cert.ReferenceIdeal.main_v4) = v1 c
          ∧ r.2.mem ((c.tc : Thread Cert.ReferenceIdeal.nD Cert.ReferenceIdeal.τ).loc Cert.ReferenceIdeal.main_v5) = v2 c
          ∧ r.2.mem ((c.tc : Thread Cert.ReferenceIdeal.nD Cert.ReferenceIdeal.τ).loc Cert.ReferenceIdeal.main_v0_0) = v3 c
          ∧ r.2.mem ((c.tc : Thread Cert.ReferenceIdeal.nD Cert.ReferenceIdeal.τ).loc Cert.ReferenceIdeal.main_v6) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def algebraic_DwIdeal_DwRefIdeal_pre_normal_rows [hDwIdeal : Cert.DwIdeal.Facts] [hDwRefIdeal : Cert.DwRefIdeal.Facts] [hPre_normal_rows : Cert.Pre_normal_rows.Facts] : Prop :=
  ∀ (m : (ℓ : Loc Cert.DwIdeal.nD Cert.DwIdeal.τ Cert.DwIdeal.sig) → Buf (Elt Ideal) ℓ) (g : Dev Cert.DwIdeal.nD → PrngReg)
    (m' : (ℓ : Loc Cert.DwRefIdeal.nD Cert.DwRefIdeal.τ Cert.DwRefIdeal.sig) → Buf (Elt Ideal) ℓ) (g' : Dev Cert.DwRefIdeal.nD → PrngReg), Pre_DwIdeal_normal_rows m →
    (∀ c : Dev Cert.DwIdeal.nD,
      m' ((c.tc : Thread Cert.DwRefIdeal.nD Cert.DwRefIdeal.τ).loc Cert.DwRefIdeal.main_arg0) = m ((c.tc : Thread Cert.DwIdeal.nD Cert.DwIdeal.τ).loc Cert.DwIdeal.main_arg0)
      ∧ m' ((c.tc : Thread Cert.DwRefIdeal.nD Cert.DwRefIdeal.τ).loc Cert.DwRefIdeal.main_arg1) = m ((c.tc : Thread Cert.DwIdeal.nD Cert.DwIdeal.τ).loc Cert.DwIdeal.main_arg1)
      ∧ m' ((c.tc : Thread Cert.DwRefIdeal.nD Cert.DwRefIdeal.τ).loc Cert.DwRefIdeal.main_arg2) = m ((c.tc : Thread Cert.DwIdeal.nD Cert.DwIdeal.τ).loc Cert.DwIdeal.main_arg2)) →
    ∃ (v0 : (c : Dev Cert.DwIdeal.nD) → Buf (Elt Ideal) ((c.tc : Thread Cert.DwIdeal.nD Cert.DwIdeal.τ).loc Cert.DwIdeal.main_v2_0)) (v1 : (c : Dev Cert.DwIdeal.nD) → Buf (Elt Ideal) ((c.tc : Thread Cert.DwIdeal.nD Cert.DwIdeal.τ).loc Cert.DwIdeal.main_v2_1)) (v2 : (c : Dev Cert.DwIdeal.nD) → Buf (Elt Ideal) ((c.tc : Thread Cert.DwIdeal.nD Cert.DwIdeal.τ).loc Cert.DwIdeal.main_v2_2)) (v3 : (c : Dev Cert.DwIdeal.nD) → Buf (Elt Ideal) ((c.tc : Thread Cert.DwIdeal.nD Cert.DwIdeal.τ).loc Cert.DwIdeal.main_v2_3)),
      θ_run (Cert.DwIdeal.defs (F := Ideal)) (onTc (τ := Cert.DwIdeal.τ) (Cert.DwIdeal.main (F := Ideal))) ⟨m, fun _ => 0, g⟩ (fun r => ∀ c : Dev Cert.DwIdeal.nD,
          r.2.mem ((c.tc : Thread Cert.DwIdeal.nD Cert.DwIdeal.τ).loc Cert.DwIdeal.main_v2_0) = v0 c
          ∧ r.2.mem ((c.tc : Thread Cert.DwIdeal.nD Cert.DwIdeal.τ).loc Cert.DwIdeal.main_v2_1) = v1 c
          ∧ r.2.mem ((c.tc : Thread Cert.DwIdeal.nD Cert.DwIdeal.τ).loc Cert.DwIdeal.main_v2_2) = v2 c
          ∧ r.2.mem ((c.tc : Thread Cert.DwIdeal.nD Cert.DwIdeal.τ).loc Cert.DwIdeal.main_v2_3) = v3 c
          ∧ r.2.mem ((c.tc : Thread Cert.DwIdeal.nD Cert.DwIdeal.τ).loc Cert.DwIdeal.main_arg0) = m ((c.tc : Thread Cert.DwIdeal.nD Cert.DwIdeal.τ).loc Cert.DwIdeal.main_arg0)
          ∧ r.2.mem ((c.tc : Thread Cert.DwIdeal.nD Cert.DwIdeal.τ).loc Cert.DwIdeal.main_arg1) = m ((c.tc : Thread Cert.DwIdeal.nD Cert.DwIdeal.τ).loc Cert.DwIdeal.main_arg1)
          ∧ r.2.mem ((c.tc : Thread Cert.DwIdeal.nD Cert.DwIdeal.τ).loc Cert.DwIdeal.main_arg2) = m ((c.tc : Thread Cert.DwIdeal.nD Cert.DwIdeal.τ).loc Cert.DwIdeal.main_arg2))
      ∧ θ_run (Cert.DwRefIdeal.defs (F := Ideal)) (onTc (τ := Cert.DwRefIdeal.τ) (Cert.DwRefIdeal.main (F := Ideal))) ⟨m', fun _ => 0, g'⟩ (fun r => ∀ c : Dev Cert.DwRefIdeal.nD,
          r.2.mem ((c.tc : Thread Cert.DwRefIdeal.nD Cert.DwRefIdeal.τ).loc Cert.DwRefIdeal.main_v1) = v0 c
          ∧ r.2.mem ((c.tc : Thread Cert.DwRefIdeal.nD Cert.DwRefIdeal.τ).loc Cert.DwRefIdeal.main_v0_0) = v1 c
          ∧ r.2.mem ((c.tc : Thread Cert.DwRefIdeal.nD Cert.DwRefIdeal.τ).loc Cert.DwRefIdeal.main_v0_1) = v2 c
          ∧ r.2.mem ((c.tc : Thread Cert.DwRefIdeal.nD Cert.DwRefIdeal.τ).loc Cert.DwRefIdeal.main_v0_2) = v3 c
          ∧ r.2.mem ((c.tc : Thread Cert.DwRefIdeal.nD Cert.DwRefIdeal.τ).loc Cert.DwRefIdeal.main_arg0) = m' ((c.tc : Thread Cert.DwRefIdeal.nD Cert.DwRefIdeal.τ).loc Cert.DwRefIdeal.main_arg0)
          ∧ r.2.mem ((c.tc : Thread Cert.DwRefIdeal.nD Cert.DwRefIdeal.τ).loc Cert.DwRefIdeal.main_arg1) = m' ((c.tc : Thread Cert.DwRefIdeal.nD Cert.DwRefIdeal.τ).loc Cert.DwRefIdeal.main_arg1)
          ∧ r.2.mem ((c.tc : Thread Cert.DwRefIdeal.nD Cert.DwRefIdeal.τ).loc Cert.DwRefIdeal.main_arg2) = m' ((c.tc : Thread Cert.DwRefIdeal.nD Cert.DwRefIdeal.τ).loc Cert.DwRefIdeal.main_arg2))

def algebraic_YIdeal_YRefIdeal [hYIdeal : Cert.YIdeal.Facts] [hYRefIdeal : Cert.YRefIdeal.Facts] : Prop :=
  ∀ (m : (ℓ : Loc Cert.YIdeal.nD Cert.YIdeal.τ Cert.YIdeal.sig) → Buf (Elt Ideal) ℓ) (g : Dev Cert.YIdeal.nD → PrngReg)
    (m' : (ℓ : Loc Cert.YRefIdeal.nD Cert.YRefIdeal.τ Cert.YRefIdeal.sig) → Buf (Elt Ideal) ℓ) (g' : Dev Cert.YRefIdeal.nD → PrngReg), Pre_YIdeal m →
    (∀ c : Dev Cert.YIdeal.nD,
      m' ((c.tc : Thread Cert.YRefIdeal.nD Cert.YRefIdeal.τ).loc Cert.YRefIdeal.main_arg0) = m ((c.tc : Thread Cert.YIdeal.nD Cert.YIdeal.τ).loc Cert.YIdeal.main_arg0)
      ∧ m' ((c.tc : Thread Cert.YRefIdeal.nD Cert.YRefIdeal.τ).loc Cert.YRefIdeal.main_arg1) = m ((c.tc : Thread Cert.YIdeal.nD Cert.YIdeal.τ).loc Cert.YIdeal.main_arg1)) →
    ∃ (v0 : (c : Dev Cert.YIdeal.nD) → Buf (Elt Ideal) ((c.tc : Thread Cert.YIdeal.nD Cert.YIdeal.τ).loc Cert.YIdeal.main_v1)),
      θ_run (Cert.YIdeal.defs (F := Ideal)) (onTc (τ := Cert.YIdeal.τ) (Cert.YIdeal.main (F := Ideal))) ⟨m, fun _ => 0, g⟩ (fun r => ∀ c : Dev Cert.YIdeal.nD,
          r.2.mem ((c.tc : Thread Cert.YIdeal.nD Cert.YIdeal.τ).loc Cert.YIdeal.main_v1) = v0 c
          ∧ r.2.mem ((c.tc : Thread Cert.YIdeal.nD Cert.YIdeal.τ).loc Cert.YIdeal.main_arg0) = m ((c.tc : Thread Cert.YIdeal.nD Cert.YIdeal.τ).loc Cert.YIdeal.main_arg0)
          ∧ r.2.mem ((c.tc : Thread Cert.YIdeal.nD Cert.YIdeal.τ).loc Cert.YIdeal.main_arg1) = m ((c.tc : Thread Cert.YIdeal.nD Cert.YIdeal.τ).loc Cert.YIdeal.main_arg1))
      ∧ θ_run (Cert.YRefIdeal.defs (F := Ideal)) (onTc (τ := Cert.YRefIdeal.τ) (Cert.YRefIdeal.main (F := Ideal))) ⟨m', fun _ => 0, g'⟩ (fun r => ∀ c : Dev Cert.YRefIdeal.nD,
          r.2.mem ((c.tc : Thread Cert.YRefIdeal.nD Cert.YRefIdeal.τ).loc Cert.YRefIdeal.main_v2) = v0 c
          ∧ r.2.mem ((c.tc : Thread Cert.YRefIdeal.nD Cert.YRefIdeal.τ).loc Cert.YRefIdeal.main_arg0) = m' ((c.tc : Thread Cert.YRefIdeal.nD Cert.YRefIdeal.τ).loc Cert.YRefIdeal.main_arg0)
          ∧ r.2.mem ((c.tc : Thread Cert.YRefIdeal.nD Cert.YRefIdeal.τ).loc Cert.YRefIdeal.main_arg1) = m' ((c.tc : Thread Cert.YRefIdeal.nD Cert.YRefIdeal.τ).loc Cert.YRefIdeal.main_arg1))

def algebraic_DxIdeal_DxRefIdeal [hDxIdeal : Cert.DxIdeal.Facts] [hDxRefIdeal : Cert.DxRefIdeal.Facts] : Prop :=
  ∀ (m : (ℓ : Loc Cert.DxIdeal.nD Cert.DxIdeal.τ Cert.DxIdeal.sig) → Buf (Elt Ideal) ℓ) (g : Dev Cert.DxIdeal.nD → PrngReg)
    (m' : (ℓ : Loc Cert.DxRefIdeal.nD Cert.DxRefIdeal.τ Cert.DxRefIdeal.sig) → Buf (Elt Ideal) ℓ) (g' : Dev Cert.DxRefIdeal.nD → PrngReg), Pre_DxIdeal m →
    (∀ c : Dev Cert.DxIdeal.nD,
      m' ((c.tc : Thread Cert.DxRefIdeal.nD Cert.DxRefIdeal.τ).loc Cert.DxRefIdeal.main_arg0) = m ((c.tc : Thread Cert.DxIdeal.nD Cert.DxIdeal.τ).loc Cert.DxIdeal.main_arg0)
      ∧ m' ((c.tc : Thread Cert.DxRefIdeal.nD Cert.DxRefIdeal.τ).loc Cert.DxRefIdeal.main_arg1) = m ((c.tc : Thread Cert.DxIdeal.nD Cert.DxIdeal.τ).loc Cert.DxIdeal.main_arg1)) →
    ∃ (v0 : (c : Dev Cert.DxIdeal.nD) → Buf (Elt Ideal) ((c.tc : Thread Cert.DxIdeal.nD Cert.DxIdeal.τ).loc Cert.DxIdeal.main_v1)),
      θ_run (Cert.DxIdeal.defs (F := Ideal)) (onTc (τ := Cert.DxIdeal.τ) (Cert.DxIdeal.main (F := Ideal))) ⟨m, fun _ => 0, g⟩ (fun r => ∀ c : Dev Cert.DxIdeal.nD,
          r.2.mem ((c.tc : Thread Cert.DxIdeal.nD Cert.DxIdeal.τ).loc Cert.DxIdeal.main_v1) = v0 c
          ∧ r.2.mem ((c.tc : Thread Cert.DxIdeal.nD Cert.DxIdeal.τ).loc Cert.DxIdeal.main_arg0) = m ((c.tc : Thread Cert.DxIdeal.nD Cert.DxIdeal.τ).loc Cert.DxIdeal.main_arg0)
          ∧ r.2.mem ((c.tc : Thread Cert.DxIdeal.nD Cert.DxIdeal.τ).loc Cert.DxIdeal.main_arg1) = m ((c.tc : Thread Cert.DxIdeal.nD Cert.DxIdeal.τ).loc Cert.DxIdeal.main_arg1))
      ∧ θ_run (Cert.DxRefIdeal.defs (F := Ideal)) (onTc (τ := Cert.DxRefIdeal.τ) (Cert.DxRefIdeal.main (F := Ideal))) ⟨m', fun _ => 0, g'⟩ (fun r => ∀ c : Dev Cert.DxRefIdeal.nD,
          r.2.mem ((c.tc : Thread Cert.DxRefIdeal.nD Cert.DxRefIdeal.τ).loc Cert.DxRefIdeal.main_v2) = v0 c
          ∧ r.2.mem ((c.tc : Thread Cert.DxRefIdeal.nD Cert.DxRefIdeal.τ).loc Cert.DxRefIdeal.main_arg0) = m' ((c.tc : Thread Cert.DxRefIdeal.nD Cert.DxRefIdeal.τ).loc Cert.DxRefIdeal.main_arg0)
          ∧ r.2.mem ((c.tc : Thread Cert.DxRefIdeal.nD Cert.DxRefIdeal.τ).loc Cert.DxRefIdeal.main_arg1) = m' ((c.tc : Thread Cert.DxRefIdeal.nD Cert.DxRefIdeal.τ).loc Cert.DxRefIdeal.main_arg1))

def Claim : Prop :=
  ∃ (hKernel : Cert.Kernel.Facts) (hKernelIdeal : Cert.KernelIdeal.Facts) (hReferenceIdeal : Cert.ReferenceIdeal.Facts) (hDw : Cert.Dw.Facts) (hDwIdeal : Cert.DwIdeal.Facts) (hDwRefIdeal : Cert.DwRefIdeal.Facts) (hY : Cert.Y.Facts) (hYIdeal : Cert.YIdeal.Facts) (hYRefIdeal : Cert.YRefIdeal.Facts) (hDx : Cert.Dx.Facts) (hDxIdeal : Cert.DxIdeal.Facts) (hDxRefIdeal : Cert.DxRefIdeal.Facts) (hPre_normal_rows : Cert.Pre_normal_rows.Facts),
    quiescent_Kernel (hKernel := hKernel)
    ∧ quiescent_KernelIdeal (hKernelIdeal := hKernelIdeal)
    ∧ quiescent_KernelIdeal_pre_normal_rows (hKernelIdeal := hKernelIdeal) (hPre_normal_rows := hPre_normal_rows)
    ∧ quiescent_ReferenceIdeal (hReferenceIdeal := hReferenceIdeal)
    ∧ quiescent_ReferenceIdeal_pre_normal_rows (hReferenceIdeal := hReferenceIdeal) (hPre_normal_rows := hPre_normal_rows)
    ∧ quiescent_Dw (hDw := hDw)
    ∧ quiescent_DwIdeal (hDwIdeal := hDwIdeal)
    ∧ quiescent_DwIdeal_pre_normal_rows (hDwIdeal := hDwIdeal) (hPre_normal_rows := hPre_normal_rows)
    ∧ quiescent_DwRefIdeal (hDwRefIdeal := hDwRefIdeal)
    ∧ quiescent_DwRefIdeal_pre_normal_rows (hDwRefIdeal := hDwRefIdeal) (hPre_normal_rows := hPre_normal_rows)
    ∧ quiescent_Y (hY := hY)
    ∧ quiescent_YIdeal (hYIdeal := hYIdeal)
    ∧ quiescent_YRefIdeal (hYRefIdeal := hYRefIdeal)
    ∧ quiescent_Dx (hDx := hDx)
    ∧ quiescent_DxIdeal (hDxIdeal := hDxIdeal)
    ∧ quiescent_DxRefIdeal (hDxRefIdeal := hDxRefIdeal)
    ∧ preserves_Kernel_KernelIdeal
    ∧ preserves_Dw_DwIdeal
    ∧ preserves_Y_YIdeal
    ∧ preserves_Dx_DxIdeal
    ∧ algebraic_KernelIdeal_ReferenceIdeal_pre_normal_rows (hKernelIdeal := hKernelIdeal) (hReferenceIdeal := hReferenceIdeal) (hPre_normal_rows := hPre_normal_rows)
    ∧ algebraic_DwIdeal_DwRefIdeal_pre_normal_rows (hDwIdeal := hDwIdeal) (hDwRefIdeal := hDwRefIdeal) (hPre_normal_rows := hPre_normal_rows)
    ∧ algebraic_YIdeal_YRefIdeal (hYIdeal := hYIdeal) (hYRefIdeal := hYRefIdeal)
    ∧ algebraic_DxIdeal_DxRefIdeal (hDxIdeal := hDxIdeal) (hDxRefIdeal := hDxRefIdeal)
-- ==== Pre_normal_rows.lean ====
abbrev S3x2048x17920 : Shape := ⟨3, ![3, 2048, 17920]⟩
abbrev S5120x17920 : Shape := ⟨2, ![5120, 17920]⟩
abbrev S3x2048x5120 : Shape := ⟨3, ![3, 2048, 5120]⟩
abbrev S_ : Shape := ⟨0, ![]⟩
abbrev S5120 : Shape := ⟨1, ![5120]⟩

class Facts : Prop where
  reducesTo_S5120x17920_S5120_d1 : S5120x17920.ReducesTo [1] S5120
  h_S_ : 0 < S_.numel
  bcast_S_S5120 : S_.BroadcastsInDim S5120 (![] : Fin 0 → Fin S5120.rank)

variable [Facts]

def fn {F : FTy → Type} [FloatOps F] (main_arg0 : FVec F S3x2048x17920 .bf16) (main_arg1 : FVec F S5120x17920 .f32) (main_arg2 : FVec F S3x2048x5120 .bf16) : IVec S5120 1 :=
  let main_v0 : FVec F S5120x17920 .f32 := Host.absf main_arg1
  let main_cst : FVec F S_ .f32 := constant S_ .f32 0xFF800000#32
  let main_v1 : FVec F S5120 .f32 := (fun x v => Host.reduce FloatOps.maximumf x v reducesTo_S5120x17920_S5120_d1 h_S_) main_v0 main_cst
  let main_cst_0 : FVec F S_ .f32 := constant S_ .f32 0x3B124925#32
  let main_v2 : FVec F S5120 .f32 := broadcastInDim S5120 ![] bcast_S_S5120 main_cst_0
  let main_v3 : FVec F S5120 .f32 := mulf main_v1 main_v2
  let main_cst_1 : FVec F S_ .f32 := constant S_ .f32 0x00000000#32
  let main_v4 : FVec F S5120 .f32 := broadcastInDim S5120 ![] bcast_S_S5120 main_cst_1
  let main_v5 : IVec S5120 1 := cmpf .oeq main_v1 main_v4
  let main_cst_2 : FVec F S_ .f32 := constant S_ .f32 0x00800000#32
  let main_v6 : FVec F S5120 .f32 := broadcastInDim S5120 ![] bcast_S_S5120 main_cst_2
  let main_v7 : IVec S5120 1 := cmpf .oge main_v3 main_v6
  let main_cst_3 : FVec F S_ .f32 := constant S_ .f32 0x7F7FFFFF#32
  let main_v8 : FVec F S5120 .f32 := broadcastInDim S5120 ![] bcast_S_S5120 main_cst_3
  let main_v9 : IVec S5120 1 := cmpf .ole main_v1 main_v8
  let main_v10 : IVec S5120 1 := andi main_v7 main_v9
  let main_v11 : IVec S5120 1 := ori main_v5 main_v10
  main_v11
-- ==== Kernel.lean ====
abbrev S3x2048x17920 : Shape := ⟨3, ![3, 2048, 17920]⟩
abbrev S5120x17920 : Shape := ⟨2, ![5120, 17920]⟩
abbrev S3x2048x5120 : Shape := ⟨3, ![3, 2048, 5120]⟩
abbrev S6144x17920 : Shape := ⟨2, ![6144, 17920]⟩
abbrev S6144x5120 : Shape := ⟨2, ![6144, 5120]⟩
abbrev S5120x1 : Shape := ⟨2, ![5120, 1]⟩
abbrev S1024x1280 : Shape := ⟨2, ![1024, 1280]⟩
abbrev S1024x2560 : Shape := ⟨2, ![1024, 2560]⟩
abbrev S32x17920 : Shape := ⟨2, ![32, 17920]⟩
abbrev S1280x2560 : Shape := ⟨2, ![1280, 2560]⟩
abbrev S32x1 : Shape := ⟨2, ![32, 1]⟩
abbrev S32 : Shape := ⟨1, ![32]⟩
abbrev S32x256 : Shape := ⟨2, ![32, 256]⟩
abbrev S2048x5120 : Shape := ⟨2, ![2048, 5120]⟩
abbrev S5120x512 : Shape := ⟨2, ![5120, 512]⟩
abbrev S2048x512 : Shape := ⟨2, ![2048, 512]⟩
abbrev S5120 : Shape := ⟨1, ![5120]⟩

abbrev nBuf : Space → Nat
  | .hbm => 14
  | .vmem => 27
  | .smem => 0
  | _ => 0

abbrev bufTy : (tb : Table) → Fin (tcTables nBuf tb) → BufTy
  | .hbm, ⟨0, _⟩ => ⟨S3x2048x17920, .bf16⟩
  | .hbm, ⟨1, _⟩ => ⟨S5120x17920, .f32⟩
  | .hbm, ⟨2, _⟩ => ⟨S3x2048x5120, .bf16⟩
  | .hbm, ⟨3, _⟩ => ⟨S6144x17920, .bf16⟩
  | .hbm, ⟨4, _⟩ => ⟨S6144x5120, .bf16⟩
  | .hbm, ⟨5, _⟩ => ⟨S5120x17920, .f32⟩
  | .hbm, ⟨6, _⟩ => ⟨S5120x17920, .fp8e4m3⟩
  | .hbm, ⟨7, _⟩ => ⟨S5120x1, .f32⟩
  | .hbm, ⟨8, _⟩ => ⟨S5120x17920, .bf16⟩
  | .hbm, ⟨9, _⟩ => ⟨S6144x5120, .bf16⟩
  | .hbm, ⟨10, _⟩ => ⟨S6144x17920, .bf16⟩
  | .hbm, ⟨11, _⟩ => ⟨S3x2048x5120, .bf16⟩
  | .hbm, ⟨12, _⟩ => ⟨S3x2048x17920, .bf16⟩
  | .hbm, ⟨13, _⟩ => ⟨S5120, .f32⟩
  | .local _ .vmem, ⟨0, _⟩ => ⟨S1024x1280, .bf16⟩
  | .local _ .vmem, ⟨1, _⟩ => ⟨S1024x1280, .bf16⟩
  | .local _ .vmem, ⟨2, _⟩ => ⟨S1024x2560, .bf16⟩
  | .local _ .vmem, ⟨3, _⟩ => ⟨S1024x2560, .bf16⟩
  | .local _ .vmem, ⟨4, _⟩ => ⟨S32x17920, .f32⟩
  | .local _ .vmem, ⟨5, _⟩ => ⟨S32x17920, .f32⟩
  | .local _ .vmem, ⟨6, _⟩ => ⟨S1280x2560, .f32⟩
  | .local _ .vmem, ⟨7, _⟩ => ⟨S1280x2560, .f32⟩
  | .local _ .vmem, ⟨8, _⟩ => ⟨S32x17920, .fp8e4m3⟩
  | .local _ .vmem, ⟨9, _⟩ => ⟨S32x17920, .fp8e4m3⟩
  | .local _ .vmem, ⟨10, _⟩ => ⟨S32x1, .f32⟩
  | .local _ .vmem, ⟨11, _⟩ => ⟨S32x1, .f32⟩
  | .local _ .vmem, ⟨12, _⟩ => ⟨S32x17920, .bf16⟩
  | .local _ .vmem, ⟨13, _⟩ => ⟨S32x17920, .bf16⟩
  | .local _ .vmem, ⟨14, _⟩ => ⟨S1024x2560, .bf16⟩
  | .local _ .vmem, ⟨15, _⟩ => ⟨S1024x2560, .bf16⟩
  | .local _ .vmem, ⟨16, _⟩ => ⟨S1280x2560, .bf16⟩
  | .local _ .vmem, ⟨17, _⟩ => ⟨S1280x2560, .bf16⟩
  | .local _ .vmem, ⟨18, _⟩ => ⟨S1024x1280, .bf16⟩
  | .local _ .vmem, ⟨19, _⟩ => ⟨S1024x1280, .bf16⟩
  | .local _ .vmem, ⟨20, _⟩ => ⟨S1024x1280, .f32⟩
  | .local _ .vmem, ⟨21, _⟩ => ⟨S2048x5120, .bf16⟩
  | .local _ .vmem, ⟨22, _⟩ => ⟨S2048x5120, .bf16⟩
  | .local _ .vmem, ⟨23, _⟩ => ⟨S5120x512, .bf16⟩
  | .local _ .vmem, ⟨24, _⟩ => ⟨S5120x512, .bf16⟩
  | .local _ .vmem, ⟨25, _⟩ => ⟨S2048x512, .bf16⟩
  | .local _ .vmem, ⟨26, _⟩ => ⟨S2048x512, .bf16⟩
  | _, _ => ⟨S3x2048x17920, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev main_v2_2 : Ref sig .tc := ⟨.hbm, 7, rfl⟩
abbrev main_v2_3 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg1_1 : Ref sig .tc := ⟨.vmem, 17, rfl⟩
abbrev cc1_stg2_0 : Ref sig .tc := ⟨.vmem, 18, rfl⟩
abbrev cc1_stg2_1 : Ref sig .tc := ⟨.vmem, 19, rfl⟩
abbrev cc1_scratch0 : Ref sig .tc := ⟨.vmem, 20, rfl⟩
abbrev cc2_stg0_0 : Ref sig .tc := ⟨.vmem, 21, rfl⟩
abbrev cc2_stg0_1 : Ref sig .tc := ⟨.vmem, 22, rfl⟩
abbrev cc2_stg1_0 : Ref sig .tc := ⟨.vmem, 23, rfl⟩
abbrev cc2_stg1_1 : Ref sig .tc := ⟨.vmem, 24, rfl⟩
abbrev cc2_stg2_0 : Ref sig .tc := ⟨.vmem, 25, rfl⟩
abbrev cc2_stg2_1 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc1_sem0_0 : DmaSem sig := 14
abbrev cc1_sem0_1 : DmaSem sig := 15
abbrev cc1_sem1_0 : DmaSem sig := 16
abbrev cc1_sem1_1 : DmaSem sig := 17
abbrev cc1_sem2_0 : DmaSem sig := 18
abbrev cc1_sem2_1 : DmaSem sig := 19
abbrev cc2_sem0_0 : DmaSem sig := 20
abbrev cc2_sem0_1 : DmaSem sig := 21
abbrev cc2_sem1_0 : DmaSem sig := 22
abbrev cc2_sem1_1 : DmaSem sig := 23
abbrev cc2_sem2_0 : DmaSem sig := 24
abbrev cc2_sem2_1 : DmaSem sig := 25

abbrev nD : Nat := 1
abbrev τ : Topo := Topo.v7x

variable {F : FTy → Type} [FloatOps F]

abbrev grid0 : Pipeline.Grid := ⟨3, ![4, 7, 6], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c7_i32 : BitVec 32 := 7#32
  let v0 : BitVec 32 := Scalar.muli arg0 c7_i32
  let v1 : BitVec 32 := Scalar.addi v0 arg1
  let c6_i32 : BitVec 32 := 6#32
  let v2 : BitVec 32 := Scalar.muli v1 c6_i32
  let v3 : BitVec 32 := Scalar.addi v2 arg2
  let c159_i32 : BitVec 32 := 159#32
  let v4 : BitVec 32 := Scalar.minsi v3 c159_i32
  let c0_i32 : BitVec 32 := 0#32
  let c0_i32_0 : BitVec 32 := 0#32
  ![v4.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c7_i32 : BitVec 32 := 7#32
  let v0 : BitVec 32 := Scalar.muli arg0 c7_i32
  let v1 : BitVec 32 := Scalar.addi v0 arg1
  let c6_i32 : BitVec 32 := 6#32
  let v2 : BitVec 32 := Scalar.muli v1 c6_i32
  let v3 : BitVec 32 := Scalar.addi v2 arg2
  let c159_i32 : BitVec 32 := 159#32
  let v4 : BitVec 32 := Scalar.minsi v3 c159_i32
  let c0_i32 : BitVec 32 := 0#32
  let c0_i32_0 : BitVec 32 := 0#32
  ![v4.toNat, c0_i32.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c7_i32 : BitVec 32 := 7#32
  let v0 : BitVec 32 := Scalar.muli arg0 c7_i32
  let v1 : BitVec 32 := Scalar.addi v0 arg1
  let c6_i32 : BitVec 32 := 6#32
  let v2 : BitVec 32 := Scalar.muli v1 c6_i32
  let v3 : BitVec 32 := Scalar.addi v2 arg2
  let c159_i32 : BitVec 32 := 159#32
  let v4 : BitVec 32 := Scalar.minsi v3 c159_i32
  let c0_i32 : BitVec 32 := 0#32
  let c0_i32_0 : BitVec 32 := 0#32
  ![v4.toNat, c0_i32.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c7_i32 : BitVec 32 := 7#32
  let v0 : BitVec 32 := Scalar.muli arg0 c7_i32
  let v1 : BitVec 32 := Scalar.addi v0 arg1
  let c6_i32 : BitVec 32 := 6#32
  let v2 : BitVec 32 := Scalar.muli v1 c6_i32
  let v3 : BitVec 32 := Scalar.addi v2 arg2
  let c159_i32 : BitVec 32 := 159#32
  let v4 : BitVec 32 := Scalar.minsi v3 c159_i32
  let c0_i32 : BitVec 32 := 0#32
  let c0_i32_0 : BitVec 32 := 0#32
  ![v4.toNat, c0_i32.toNat]

abbrev stage0_0 : Fin 2 → Memref sig .tc .vmem S1024x1280 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2560 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S32x17920 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1280x2560 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S32x17920 .fp8e4m3 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S32x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S32x17920 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

abbrev grid1 : Pipeline.Grid := ⟨3, ![6, 4, 7], ![false, false, false]⟩

def k1_cond2 (i : grid1.Coords) : BitVec 1 :=
  let arg2 : BitVec 32 := BitVec.ofNat 32 (i 2).val
  let c6_i32 : BitVec 32 := 6#32
  let v13 : BitVec 1 := Scalar.cmpi .eq arg2 c6_i32
  let v14 : BitVec 32 := Scalar.extui v13
  let c0_i32_8 : BitVec 32 := 0#32
  let v15 : BitVec 1 := Scalar.cmpi .ne v14 c0_i32_8
  v15

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S1024x2560 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 2 → Memref sig .tc .vmem S1280x2560 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 2 → Memref sig .tc .vmem S1024x1280 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

abbrev grid2 : Pipeline.Grid := ⟨2, ![3, 35], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage2_0 : Fin 2 → Memref sig .tc .vmem S2048x5120 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false]

abbrev stage2_1 : Fin 2 → Memref sig .tc .vmem S5120x512 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 2 → Memref sig .tc .vmem S2048x512 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]
-- ==== ReferenceIdeal.lean ====
abbrev S3x2048x17920 : Shape := ⟨3, ![3, 2048, 17920]⟩
abbrev S5120x17920 : Shape := ⟨2, ![5120, 17920]⟩
abbrev S3x2048x5120 : Shape := ⟨3, ![3, 2048, 5120]⟩
abbrev S5120x1 : Shape := ⟨2, ![5120, 1]⟩
abbrev S5120 : Shape := ⟨1, ![5120]⟩

abbrev nBuf : Space → Nat
  | .hbm => 12
  | .vmem => 4
  | .smem => 0
  | _ => 0

abbrev bufTy : (tb : Table) → Fin (tcTables nBuf tb) → BufTy
  | .hbm, ⟨0, _⟩ => ⟨S3x2048x17920, .bf16⟩
  | .hbm, ⟨1, _⟩ => ⟨S5120x17920, .f32⟩
  | .hbm, ⟨2, _⟩ => ⟨S3x2048x5120, .bf16⟩
  | .hbm, ⟨3, _⟩ => ⟨S5120x17920, .fp8e4m3⟩
  | .hbm, ⟨4, _⟩ => ⟨S5120x1, .f32⟩
  | .hbm, ⟨5, _⟩ => ⟨S5120x17920, .bf16⟩
  | .hbm, ⟨6, _⟩ => ⟨S3x2048x5120, .f32⟩
  | .hbm, ⟨7, _⟩ => ⟨S3x2048x5120, .bf16⟩
  | .hbm, ⟨8, _⟩ => ⟨S3x2048x17920, .f32⟩
  | .hbm, ⟨9, _⟩ => ⟨S3x2048x17920, .bf16⟩
  | .hbm, ⟨10, _⟩ => ⟨S5120x17920, .f32⟩
  | .hbm, ⟨11, _⟩ => ⟨S5120, .f32⟩
  | .local _ .vmem, ⟨0, _⟩ => ⟨S5120x17920, .f32⟩
  | .local _ .vmem, ⟨1, _⟩ => ⟨S5120x17920, .fp8e4m3⟩
  | .local _ .vmem, ⟨2, _⟩ => ⟨S5120x1, .f32⟩
  | .local _ .vmem, ⟨3, _⟩ => ⟨S5120x17920, .bf16⟩
  | _, _ => ⟨S3x2048x17920, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := .none

abbrev stage0_0 : Fin 1 → Memref sig .tc .vmem S5120x17920 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S5120x17920 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S5120x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S5120x17920 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== Dw.lean ====
abbrev S3x2048x17920 : Shape := ⟨3, ![3, 2048, 17920]⟩
abbrev S5120x17920 : Shape := ⟨2, ![5120, 17920]⟩
abbrev S3x2048x5120 : Shape := ⟨3, ![3, 2048, 5120]⟩
abbrev S6144x5120 : Shape := ⟨2, ![6144, 5120]⟩
abbrev S6144x17920 : Shape := ⟨2, ![6144, 17920]⟩
abbrev S5120x1 : Shape := ⟨2, ![5120, 1]⟩
abbrev S1024x1280 : Shape := ⟨2, ![1024, 1280]⟩
abbrev S1024x2560 : Shape := ⟨2, ![1024, 2560]⟩
abbrev S32x17920 : Shape := ⟨2, ![32, 17920]⟩
abbrev S1280x2560 : Shape := ⟨2, ![1280, 2560]⟩
abbrev S32x1 : Shape := ⟨2, ![32, 1]⟩
abbrev S32 : Shape := ⟨1, ![32]⟩
abbrev S32x256 : Shape := ⟨2, ![32, 256]⟩

abbrev nBuf : Space → Nat
  | .hbm => 9
  | .vmem => 14
  | .smem => 0
  | _ => 0

abbrev bufTy : (tb : Table) → Fin (tcTables nBuf tb) → BufTy
  | .hbm, ⟨0, _⟩ => ⟨S3x2048x17920, .bf16⟩
  | .hbm, ⟨1, _⟩ => ⟨S5120x17920, .f32⟩
  | .hbm, ⟨2, _⟩ => ⟨S3x2048x5120, .bf16⟩
  | .hbm, ⟨3, _⟩ => ⟨S6144x5120, .bf16⟩
  | .hbm, ⟨4, _⟩ => ⟨S6144x17920, .bf16⟩
  | .hbm, ⟨5, _⟩ => ⟨S5120x17920, .f32⟩
  | .hbm, ⟨6, _⟩ => ⟨S5120x17920, .fp8e4m3⟩
  | .hbm, ⟨7, _⟩ => ⟨S5120x1, .f32⟩
  | .hbm, ⟨8, _⟩ => ⟨S5120x17920, .bf16⟩
  | .local _ .vmem, ⟨0, _⟩ => ⟨S1024x1280, .bf16⟩
  | .local _ .vmem, ⟨1, _⟩ => ⟨S1024x1280, .bf16⟩
  | .local _ .vmem, ⟨2, _⟩ => ⟨S1024x2560, .bf16⟩
  | .local _ .vmem, ⟨3, _⟩ => ⟨S1024x2560, .bf16⟩
  | .local _ .vmem, ⟨4, _⟩ => ⟨S32x17920, .f32⟩
  | .local _ .vmem, ⟨5, _⟩ => ⟨S32x17920, .f32⟩
  | .local _ .vmem, ⟨6, _⟩ => ⟨S1280x2560, .f32⟩
  | .local _ .vmem, ⟨7, _⟩ => ⟨S1280x2560, .f32⟩
  | .local _ .vmem, ⟨8, _⟩ => ⟨S32x17920, .fp8e4m3⟩
  | .local _ .vmem, ⟨9, _⟩ => ⟨S32x17920, .fp8e4m3⟩
  | .local _ .vmem, ⟨10, _⟩ => ⟨S32x1, .f32⟩
  | .local _ .vmem, ⟨11, _⟩ => ⟨S32x1, .f32⟩
  | .local _ .vmem, ⟨12, _⟩ => ⟨S32x17920, .bf16⟩
  | .local _ .vmem, ⟨13, _⟩ => ⟨S32x17920, .bf16⟩
  | _, _ => ⟨S3x2048x17920, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev main_v2_2 : Ref sig .tc := ⟨.hbm, 7, rfl⟩
abbrev main_v2_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨3, ![4, 7, 6], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c7_i32 : BitVec 32 := 7#32
  let v0 : BitVec 32 := Scalar.muli arg0 c7_i32
  let v1 : BitVec 32 := Scalar.addi v0 arg1
  let c6_i32 : BitVec 32 := 6#32
  let v2 : BitVec 32 := Scalar.muli v1 c6_i32
  let v3 : BitVec 32 := Scalar.addi v2 arg2
  let c159_i32 : BitVec 32 := 159#32
  let v4 : BitVec 32 := Scalar.minsi v3 c159_i32
  let c0_i32 : BitVec 32 := 0#32
  let c0_i32_0 : BitVec 32 := 0#32
  ![v4.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c7_i32 : BitVec 32 := 7#32
  let v0 : BitVec 32 := Scalar.muli arg0 c7_i32
  let v1 : BitVec 32 := Scalar.addi v0 arg1
  let c6_i32 : BitVec 32 := 6#32
  let v2 : BitVec 32 := Scalar.muli v1 c6_i32
  let v3 : BitVec 32 := Scalar.addi v2 arg2
  let c159_i32 : BitVec 32 := 159#32
  let v4 : BitVec 32 := Scalar.minsi v3 c159_i32
  let c0_i32 : BitVec 32 := 0#32
  let c0_i32_0 : BitVec 32 := 0#32
  ![v4.toNat, c0_i32.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c7_i32 : BitVec 32 := 7#32
  let v0 : BitVec 32 := Scalar.muli arg0 c7_i32
  let v1 : BitVec 32 := Scalar.addi v0 arg1
  let c6_i32 : BitVec 32 := 6#32
  let v2 : BitVec 32 := Scalar.muli v1 c6_i32
  let v3 : BitVec 32 := Scalar.addi v2 arg2
  let c159_i32 : BitVec 32 := 159#32
  let v4 : BitVec 32 := Scalar.minsi v3 c159_i32
  let c0_i32 : BitVec 32 := 0#32
  let c0_i32_0 : BitVec 32 := 0#32
  ![v4.toNat, c0_i32.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c7_i32 : BitVec 32 := 7#32
  let v0 : BitVec 32 := Scalar.muli arg0 c7_i32
  let v1 : BitVec 32 := Scalar.addi v0 arg1
  let c6_i32 : BitVec 32 := 6#32
  let v2 : BitVec 32 := Scalar.muli v1 c6_i32
  let v3 : BitVec 32 := Scalar.addi v2 arg2
  let c159_i32 : BitVec 32 := 159#32
  let v4 : BitVec 32 := Scalar.minsi v3 c159_i32
  let c0_i32 : BitVec 32 := 0#32
  let c0_i32_0 : BitVec 32 := 0#32
  ![v4.toNat, c0_i32.toNat]

abbrev stage0_0 : Fin 2 → Memref sig .tc .vmem S1024x1280 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2560 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S32x17920 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1280x2560 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S32x17920 .fp8e4m3 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S32x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S32x17920 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]
-- ==== DwRefIdeal.lean ====
abbrev S3x2048x17920 : Shape := ⟨3, ![3, 2048, 17920]⟩
abbrev S5120x17920 : Shape := ⟨2, ![5120, 17920]⟩
abbrev S3x2048x5120 : Shape := ⟨3, ![3, 2048, 5120]⟩
abbrev S5120x1 : Shape := ⟨2, ![5120, 1]⟩
abbrev S5120 : Shape := ⟨1, ![5120]⟩

abbrev nBuf : Space → Nat
  | .hbm => 7
  | .vmem => 4
  | .smem => 0
  | _ => 0

abbrev bufTy : (tb : Table) → Fin (tcTables nBuf tb) → BufTy
  | .hbm, ⟨0, _⟩ => ⟨S3x2048x17920, .bf16⟩
  | .hbm, ⟨1, _⟩ => ⟨S5120x17920, .f32⟩
  | .hbm, ⟨2, _⟩ => ⟨S3x2048x5120, .bf16⟩
  | .hbm, ⟨3, _⟩ => ⟨S5120x17920, .fp8e4m3⟩
  | .hbm, ⟨4, _⟩ => ⟨S5120x1, .f32⟩
  | .hbm, ⟨5, _⟩ => ⟨S5120x17920, .bf16⟩
  | .hbm, ⟨6, _⟩ => ⟨S5120x17920, .f32⟩
  | .local _ .vmem, ⟨0, _⟩ => ⟨S5120x17920, .f32⟩
  | .local _ .vmem, ⟨1, _⟩ => ⟨S5120x17920, .fp8e4m3⟩
  | .local _ .vmem, ⟨2, _⟩ => ⟨S5120x1, .f32⟩
  | .local _ .vmem, ⟨3, _⟩ => ⟨S5120x17920, .bf16⟩
  | _, _ => ⟨S3x2048x17920, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev main_v1 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := .none

abbrev stage0_0 : Fin 1 → Memref sig .tc .vmem S5120x17920 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S5120x17920 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S5120x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S5120x17920 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== Y.lean ====
abbrev S3x2048x17920 : Shape := ⟨3, ![3, 2048, 17920]⟩
abbrev S5120x17920 : Shape := ⟨2, ![5120, 17920]⟩
abbrev S6144x17920 : Shape := ⟨2, ![6144, 17920]⟩
abbrev S6144x5120 : Shape := ⟨2, ![6144, 5120]⟩
abbrev S1024x2560 : Shape := ⟨2, ![1024, 2560]⟩
abbrev S1280x2560 : Shape := ⟨2, ![1280, 2560]⟩
abbrev S1024x1280 : Shape := ⟨2, ![1024, 1280]⟩

abbrev nBuf : Space → Nat
  | .hbm => 4
  | .vmem => 7
  | .smem => 0
  | _ => 0

abbrev bufTy : (tb : Table) → Fin (tcTables nBuf tb) → BufTy
  | .hbm, ⟨0, _⟩ => ⟨S3x2048x17920, .bf16⟩
  | .hbm, ⟨1, _⟩ => ⟨S5120x17920, .bf16⟩
  | .hbm, ⟨2, _⟩ => ⟨S6144x17920, .bf16⟩
  | .hbm, ⟨3, _⟩ => ⟨S6144x5120, .bf16⟩
  | .local _ .vmem, ⟨0, _⟩ => ⟨S1024x2560, .bf16⟩
  | .local _ .vmem, ⟨1, _⟩ => ⟨S1024x2560, .bf16⟩
  | .local _ .vmem, ⟨2, _⟩ => ⟨S1280x2560, .bf16⟩
  | .local _ .vmem, ⟨3, _⟩ => ⟨S1280x2560, .bf16⟩
  | .local _ .vmem, ⟨4, _⟩ => ⟨S1024x1280, .bf16⟩
  | .local _ .vmem, ⟨5, _⟩ => ⟨S1024x1280, .bf16⟩
  | .local _ .vmem, ⟨6, _⟩ => ⟨S1024x1280, .f32⟩
  | _, _ => ⟨S3x2048x17920, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![6, 4, 7], ![false, false, false]⟩

def k0_cond2 (i : grid0.Coords) : BitVec 1 :=
  let arg2 : BitVec 32 := BitVec.ofNat 32 (i 2).val
  let c6_i32 : BitVec 32 := 6#32
  let v12 : BitVec 1 := Scalar.cmpi .eq arg2 c6_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2560 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1280x2560 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1280 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== YRefIdeal.lean ====
abbrev S3x2048x17920 : Shape := ⟨3, ![3, 2048, 17920]⟩
abbrev S5120x17920 : Shape := ⟨2, ![5120, 17920]⟩
abbrev S3x2048x5120 : Shape := ⟨3, ![3, 2048, 5120]⟩
abbrev S6144x5120 : Shape := ⟨2, ![6144, 5120]⟩

abbrev nBuf : Space → Nat
  | .hbm => 5
  | .vmem => 0
  | .smem => 0
  | _ => 0

abbrev bufTy : (tb : Table) → Fin (tcTables nBuf tb) → BufTy
  | .hbm, ⟨0, _⟩ => ⟨S3x2048x17920, .bf16⟩
  | .hbm, ⟨1, _⟩ => ⟨S5120x17920, .bf16⟩
  | .hbm, ⟨2, _⟩ => ⟨S3x2048x5120, .f32⟩
  | .hbm, ⟨3, _⟩ => ⟨S3x2048x5120, .bf16⟩
  | .hbm, ⟨4, _⟩ => ⟨S6144x5120, .bf16⟩
  | _, _ => ⟨S3x2048x17920, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Dx.lean ====
abbrev S3x2048x5120 : Shape := ⟨3, ![3, 2048, 5120]⟩
abbrev S5120x17920 : Shape := ⟨2, ![5120, 17920]⟩
abbrev S6144x5120 : Shape := ⟨2, ![6144, 5120]⟩
abbrev S6144x17920 : Shape := ⟨2, ![6144, 17920]⟩
abbrev S2048x5120 : Shape := ⟨2, ![2048, 5120]⟩
abbrev S5120x512 : Shape := ⟨2, ![5120, 512]⟩
abbrev S2048x512 : Shape := ⟨2, ![2048, 512]⟩

abbrev nBuf : Space → Nat
  | .hbm => 4
  | .vmem => 6
  | .smem => 0
  | _ => 0

abbrev bufTy : (tb : Table) → Fin (tcTables nBuf tb) → BufTy
  | .hbm, ⟨0, _⟩ => ⟨S3x2048x5120, .bf16⟩
  | .hbm, ⟨1, _⟩ => ⟨S5120x17920, .bf16⟩
  | .hbm, ⟨2, _⟩ => ⟨S6144x5120, .bf16⟩
  | .hbm, ⟨3, _⟩ => ⟨S6144x17920, .bf16⟩
  | .local _ .vmem, ⟨0, _⟩ => ⟨S2048x5120, .bf16⟩
  | .local _ .vmem, ⟨1, _⟩ => ⟨S2048x5120, .bf16⟩
  | .local _ .vmem, ⟨2, _⟩ => ⟨S5120x512, .bf16⟩
  | .local _ .vmem, ⟨3, _⟩ => ⟨S5120x512, .bf16⟩
  | .local _ .vmem, ⟨4, _⟩ => ⟨S2048x512, .bf16⟩
  | .local _ .vmem, ⟨5, _⟩ => ⟨S2048x512, .bf16⟩
  | _, _ => ⟨S3x2048x5120, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![3, 35], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x5120 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S5120x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== DxRefIdeal.lean ====
abbrev S3x2048x5120 : Shape := ⟨3, ![3, 2048, 5120]⟩
abbrev S5120x17920 : Shape := ⟨2, ![5120, 17920]⟩
abbrev S3x2048x17920 : Shape := ⟨3, ![3, 2048, 17920]⟩
abbrev S6144x17920 : Shape := ⟨2, ![6144, 17920]⟩

abbrev nBuf : Space → Nat
  | .hbm => 5
  | .vmem => 0
  | .smem => 0
  | _ => 0

abbrev bufTy : (tb : Table) → Fin (tcTables nBuf tb) → BufTy
  | .hbm, ⟨0, _⟩ => ⟨S3x2048x5120, .bf16⟩
  | .hbm, ⟨1, _⟩ => ⟨S5120x17920, .bf16⟩
  | .hbm, ⟨2, _⟩ => ⟨S3x2048x17920, .f32⟩
  | .hbm, ⟨3, _⟩ => ⟨S3x2048x17920, .bf16⟩
  | .hbm, ⟨4, _⟩ => ⟨S6144x17920, .bf16⟩
  | _, _ => ⟨S3x2048x5120, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Proof.Calls.Dw.lean ====
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp

@[expose] public section

/-! The first call (`dw` and the quantiser) from any contents of the buffers: what its body computes, case by case,
and what each point leaves. -/

-- membership in a rectangle with long axes: the elaborator recurses once per coordinate
set_option maxRecDepth 16384

noncomputable section

namespace Cert.KernelIdeal.Calls

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the call is entered
variable (V : (c : Dev nD) → (b : Ref sig .tc) → Buf (Elt F) ((c : Thread nD τ).loc b))

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for ANY proof
    data whose array is `V`'s (`hA`) and whose body leaves the block in place (`hafter`), by
    `Dat.before_in_eq_fetched` (unfetched, the index has not moved), the window uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1's current staging buffer holds its block at every point, fetched there or not, for ANY proof
    data whose array is `V`'s (`hA`) and whose body leaves the block in place (`hafter`), by
    `Dat.before_in_eq_fetched` (unfetched, the index has not moved), the window uncut and never idle. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- Input window 2's current staging buffer holds its block at every point, fetched there or not, for ANY proof
    data whose array is `V`'s (`hA`) and whose body leaves the block in place (`hafter`), by
    `Dat.before_in_eq_fetched` (unfetched, the index has not moved), the window uncut and never idle. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.cmpi .eq (BitVec.ofNat 32 (i 2).val) 0#32)) 0#32) = 1#1
/-- It holds at the points ≡ 0 (mod 6) — by arithmetic of the point. -/
theorem hcond0_0 : ∀ t : Fin cfg0.N, cond0_0 (grid0.coords t) ↔ t.val % 6 = 0 :=
  (fun t => by
    have ht : t.val < 168 := Nat.lt_of_lt_of_eq t.isLt N_0
    have e0 : (grid0.coords t 0).val = t.val / 42 % 4 := Pipeline.Grid.coords_val t 0 (by decide) rfl
    have e1 : (grid0.coords t 1).val = t.val / 6 % 7 := Pipeline.Grid.coords_val t 1 (by decide) rfl
    have e2 : (grid0.coords t 2).val = t.val / 1 % 6 := Pipeline.Grid.coords_val t 2 (by decide) rfl
    simp only [cond0_0, e0, e1, e2]
    word_cmp
   : ∀ t : Fin grid0.N, cond0_0 (grid0.coords t) ↔ t.val % 6 = 0)

/-! ## The kernel body on any staging memrefs: a subtype the run finds -/

/-- One staging buffer of output window 3, through which its contents are stated (`View.read_writes_of_cover`: the
    choice does not matter). -/
abbrev VO0_3 : View sig .tc .vmem S1280x2560 .f32 := (Memref.whole cc0_stg3_0 : Memref sig .tc .vmem S1280x2560 .f32).view
/-- One staging buffer of output window 4, through which its contents are stated (`View.read_writes_of_cover`: the
    choice does not matter). -/
abbrev VO0_4 : View sig .tc .vmem S32x17920 .fp8e4m3 := (Memref.whole cc0_stg4_0 : Memref sig .tc .vmem S32x17920 .fp8e4m3).view
/-- One staging buffer of output window 5, through which its contents are stated (`View.read_writes_of_cover`: the
    choice does not matter). -/
abbrev VO0_5 : View sig .tc .vmem S32x1 .f32 := (Memref.whole cc0_stg5_0 : Memref sig .tc .vmem S32x1 .f32).view
/-- One staging buffer of output window 6, through which its contents are stated (`View.read_writes_of_cover`: the
    choice does not matter). -/
abbrev VO0_6 : View sig .tc .vmem S32x17920 .bf16 := (Memref.whole cc0_stg6_0 : Memref sig .tc .vmem S32x17920 .bf16).view
/-- Each window's current staging memref at point `t`, spelled as the pipeline passes it (`bodyAt0`), and its wholeness. -/
abbrev ms0_0 (t : Fin cfg0.N) : Memref sig .tc .vmem S1024x1280 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x2560 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S32x17920 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1280x2560 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S32x17920 .fp8e4m3 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S32x1 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S32x17920 .bf16 := win0_6.stage (cfg0.slots t 6)
abbrev hs0_6 (t : Fin cfg0.N) : (ms0_6 t).IsWhole := hstage0_6 ((cfg0.slots t 6).cast nbuf0_6)

-- (the run's proof term is large: the definition's epilogue — `abstractNestedProofs` — walks it past the default budget)
set_option maxHeartbeats 1000000 in
/-- What the body's stores leave in each output's staging memref, as pieces (last first) IN CASE A (`scf.if` 0 taken: points 0, 6, … 162: 28 of 168), WITH the
    proof that on whole staging memrefs — the inputs' at their contents, the other outputs' at
    anything, the body runs to the continuation holding the inputs' as they were,
    each output's buffer with its pieces written: the printed functions are their skeletons
    (`Gen.*_eq_skeleton`), which `sl_exec` runs — each `scf.if` decided by the case's hypotheses `hc·`; the pieces are
    the witness that run finds (assigned when `iexact` hands the buffer to the continuation). -/
noncomputable def kernelRun0_A (c : Dev nD) (i : grid0.Coords) (arg3 : Memref sig .tc .vmem S1024x1280 .bf16) (harg3 : arg3.IsWhole) (arg4 : Memref sig .tc .vmem S1024x2560 .bf16) (harg4 : arg4.IsWhole) (arg5 : Memref sig .tc .vmem S32x17920 .f32) (harg5 : arg5.IsWhole) (arg6 : Memref sig .tc .vmem S1280x2560 .f32) (harg6 : arg6.IsWhole) (arg7 : Memref sig .tc .vmem S32x17920 .fp8e4m3) (harg7 : arg7.IsWhole) (arg8 : Memref sig .tc .vmem S32x1 .f32) (harg8 : arg8.IsWhole) (arg9 : Memref sig .tc .vmem S32x17920 .bf16) (harg9 : arg9.IsWhole) (hc0 : cond0_0 i)
    (x0 : Vec F S1024x1280 .bf16) (x1 : Vec F S1024x2560 .bf16) (x2 : Vec F S32x17920 .f32) :
    Σ' (L3 : List (View.Piece (Elt F) S1280x2560 .f32)), Σ' (L4 : List (View.Piece (Elt F) S32x17920 .fp8e4m3)), Σ' (L5 : List (View.Piece (Elt F) S32x1 .f32)), { L6 : List (View.Piece (Elt F) S32x17920 .bf16) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg3 fullShare x0 ∗ owns (c : Thread nD τ) arg4 fullShare x1 ∗ owns (c : Thread nD τ) arg5 fullShare x2 ∗ (∃ f, arg6.view.loc (c : Thread nD τ) ↦[arg6.view.set]{fullShare} arg6.view.writes (Elt F) f L3) ∗ (∃ f, arg7.view.loc (c : Thread nD τ) ↦[arg7.view.set]{fullShare} arg7.view.writes (Elt F) f L4) ∗ (∃ f, arg8.view.loc (c : Thread nD τ) ↦[arg8.view.set]{fullShare} arg8.view.writes (Elt F) f L5) ∗ (∃ f, arg9.view.loc (c : Thread nD τ) ↦[arg9.view.set]{fullShare} arg9.view.writes (Elt F) f L6)) -∗ K ⟨⟩))
          ⊢ wp frame (wpE (defs₀ (F := F)) Variants.none c none) E (cc0_dw_quant i arg3 harg3 arg4 harg4 arg5 harg5 arg6 harg6 arg7 harg7 arg8 harg8 arg9 harg9) K } := by
  refine ⟨?_, ?_, ?_, ?_, fun E K => ?run⟩
  case run =>
    simp only [cc0_dw_quant_eq_skeleton]; unfold cc0_dw_quant_skel
    simp only [k0_part1_eq_skeleton]
    unfold owns
    iintro ⟨⟨%f0, %hf0, H0⟩, ⟨%f1, %hf1, H1⟩, ⟨%f2, %hf2, H2⟩, ⟨%d3, %f3, -, H3⟩, ⟨%d4, %f4, -, H4⟩, ⟨%d5, %f5, -, H5⟩, ⟨%d6, %f6, -, H6⟩, Hk⟩
    obtain rfl := harg3.eq_unread hf0; obtain rfl := harg4.eq_unread hf1; obtain rfl := harg5.eq_unread hf2
    sl_exec (disch := first | sl_exact hc0)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    isplitl [H4]; · iexists _; iexact H4
    isplitl [H5]; · iexists _; iexact H5
    iexists _; iexact H6

/-- Case A's pieces for output 3 tile its block (2 stores of `S1280x2560`, checked by evaluating `Piece.tiledL`), so they cover it. -/
theorem cover0_A_3 (c : Dev nD) (i : grid0.Coords) (arg3 : Memref sig .tc .vmem S1024x1280 .bf16) (harg3 : arg3.IsWhole) (arg4 : Memref sig .tc .vmem S1024x2560 .bf16) (harg4 : arg4.IsWhole) (arg5 : Memref sig .tc .vmem S32x17920 .f32) (harg5 : arg5.IsWhole) (arg6 : Memref sig .tc .vmem S1280x2560 .f32) (harg6 : arg6.IsWhole) (arg7 : Memref sig .tc .vmem S32x17920 .fp8e4m3) (harg7 : arg7.IsWhole) (arg8 : Memref sig .tc .vmem S32x1 .f32) (harg8 : arg8.IsWhole) (arg9 : Memref sig .tc .vmem S32x17920 .bf16) (harg9 : arg9.IsWhole) (hc0 : cond0_0 i)
    (x0 : Vec F S1024x1280 .bf16) (x1 : Vec F S1024x2560 .bf16) (x2 : Vec F S32x17920 .f32) (y : S1280x2560.Idx) :
    ∃ pc ∈ (kernelRun0_A c i arg3 harg3 arg4 harg4 arg5 harg5 arg6 harg6 arg7 harg7 arg8 harg8 arg9 harg9 hc0 x0 x1 x2).1, y ∈ pc.1.set :=
  View.cover_of_tiledL (kernelRun0_A c i arg3 harg3 arg4 harg4 arg5 harg5 arg6 harg6 arg7 harg7 arg8 harg8 arg9 harg9 hc0 x0 x1 x2).1 S1280x2560.size (by sl_kernel_rfl) y

/-- What case A leaves in output 3's staging buffer: its pieces read back over junk. -/
def out0_A_3 (c : Dev nD) (i : grid0.Coords) (arg3 : Memref sig .tc .vmem S1024x1280 .bf16) (harg3 : arg3.IsWhole) (arg4 : Memref sig .tc .vmem S1024x2560 .bf16) (harg4 : arg4.IsWhole) (arg5 : Memref sig .tc .vmem S32x17920 .f32) (harg5 : arg5.IsWhole) (arg6 : Memref sig .tc .vmem S1280x2560 .f32) (harg6 : arg6.IsWhole) (arg7 : Memref sig .tc .vmem S32x17920 .fp8e4m3) (harg7 : arg7.IsWhole) (arg8 : Memref sig .tc .vmem S32x1 .f32) (harg8 : arg8.IsWhole) (arg9 : Memref sig .tc .vmem S32x17920 .bf16) (harg9 : arg9.IsWhole) (hc0 : cond0_0 i)
    (x0 : Vec F S1024x1280 .bf16) (x1 : Vec F S1024x2560 .bf16) (x2 : Vec F S32x17920 .f32) : Vec F S1280x2560 .f32 :=
  VO0_3.read (Elt F) (VO0_3.writes (Elt F) VO0_3.junk (kernelRun0_A c i arg3 harg3 arg4 harg4 arg5 harg5 arg6 harg6 arg7 harg7 arg8 harg8 arg9 harg9 hc0 x0 x1 x2).1)

/-- Case A's pieces for output 4 tile its block (1 store of `S32x17920`, checked by evaluating `Piece.tiledL`), so they cover it. -/
theorem cover0_A_4 (c : Dev nD) (i : grid0.Coords) (arg3 : Memref sig .tc .vmem S1024x1280 .bf16) (harg3 : arg3.IsWhole) (arg4 : Memref sig .tc .vmem S1024x2560 .bf16) (harg4 : arg4.IsWhole) (arg5 : Memref sig .tc .vmem S32x17920 .f32) (harg5 : arg5.IsWhole) (arg6 : Memref sig .tc .vmem S1280x2560 .f32) (harg6 : arg6.IsWhole) (arg7 : Memref sig .tc .vmem S32x17920 .fp8e4m3) (harg7 : arg7.IsWhole) (arg8 : Memref sig .tc .vmem S32x1 .f32) (harg8 : arg8.IsWhole) (arg9 : Memref sig .tc .vmem S32x17920 .bf16) (harg9 : arg9.IsWhole) (hc0 : cond0_0 i)
    (x0 : Vec F S1024x1280 .bf16) (x1 : Vec F S1024x2560 .bf16) (x2 : Vec F S32x17920 .f32) (y : S32x17920.Idx) :
    ∃ pc ∈ (kernelRun0_A c i arg3 harg3 arg4 harg4 arg5 harg5 arg6 harg6 arg7 harg7 arg8 harg8 arg9 harg9 hc0 x0 x1 x2).2.1, y ∈ pc.1.set :=
  View.cover_of_tiledL (kernelRun0_A c i arg3 harg3 arg4 harg4 arg5 harg5 arg6 harg6 arg7 harg7 arg8 harg8 arg9 harg9 hc0 x0 x1 x2).2.1 S32x17920.size (by sl_kernel_rfl) y

/-- What case A leaves in output 4's staging buffer: its pieces read back over junk. -/
def out0_A_4 (c : Dev nD) (i : grid0.Coords) (arg3 : Memref sig .tc .vmem S1024x1280 .bf16) (harg3 : arg3.IsWhole) (arg4 : Memref sig .tc .vmem S1024x2560 .bf16) (harg4 : arg4.IsWhole) (arg5 : Memref sig .tc .vmem S32x17920 .f32) (harg5 : arg5.IsWhole) (arg6 : Memref sig .tc .vmem S1280x2560 .f32) (harg6 : arg6.IsWhole) (arg7 : Memref sig .tc .vmem S32x17920 .fp8e4m3) (harg7 : arg7.IsWhole) (arg8 : Memref sig .tc .vmem S32x1 .f32) (harg8 : arg8.IsWhole) (arg9 : Memref sig .tc .vmem S32x17920 .bf16) (harg9 : arg9.IsWhole) (hc0 : cond0_0 i)
    (x0 : Vec F S1024x1280 .bf16) (x1 : Vec F S1024x2560 .bf16) (x2 : Vec F S32x17920 .f32) : Vec F S32x17920 .fp8e4m3 :=
  VO0_4.read (Elt F) (VO0_4.writes (Elt F) VO0_4.junk (kernelRun0_A c i arg3 harg3 arg4 harg4 arg5 harg5 arg6 harg6 arg7 harg7 arg8 harg8 arg9 harg9 hc0 x0 x1 x2).2.1)

/-- Case A's pieces for output 5 tile its block (1 store of `S32x1`, checked by evaluating `Piece.tiledL`), so they cover it. -/
theorem cover0_A_5 (c : Dev nD) (i : grid0.Coords) (arg3 : Memref sig .tc .vmem S1024x1280 .bf16) (harg3 : arg3.IsWhole) (arg4 : Memref sig .tc .vmem S1024x2560 .bf16) (harg4 : arg4.IsWhole) (arg5 : Memref sig .tc .vmem S32x17920 .f32) (harg5 : arg5.IsWhole) (arg6 : Memref sig .tc .vmem S1280x2560 .f32) (harg6 : arg6.IsWhole) (arg7 : Memref sig .tc .vmem S32x17920 .fp8e4m3) (harg7 : arg7.IsWhole) (arg8 : Memref sig .tc .vmem S32x1 .f32) (harg8 : arg8.IsWhole) (arg9 : Memref sig .tc .vmem S32x17920 .bf16) (harg9 : arg9.IsWhole) (hc0 : cond0_0 i)
    (x0 : Vec F S1024x1280 .bf16) (x1 : Vec F S1024x2560 .bf16) (x2 : Vec F S32x17920 .f32) (y : S32x1.Idx) :
    ∃ pc ∈ (kernelRun0_A c i arg3 harg3 arg4 harg4 arg5 harg5 arg6 harg6 arg7 harg7 arg8 harg8 arg9 harg9 hc0 x0 x1 x2).2.2.1, y ∈ pc.1.set :=
  View.cover_of_tiledL (kernelRun0_A c i arg3 harg3 arg4 harg4 arg5 harg5 arg6 harg6 arg7 harg7 arg8 harg8 arg9 harg9 hc0 x0 x1 x2).2.2.1 S32x1.size (by sl_kernel_rfl) y

/-- What case A leaves in output 5's staging buffer: its pieces read back over junk. -/
def out0_A_5 (c : Dev nD) (i : grid0.Coords) (arg3 : Memref sig .tc .vmem S1024x1280 .bf16) (harg3 : arg3.IsWhole) (arg4 : Memref sig .tc .vmem S1024x2560 .bf16) (harg4 : arg4.IsWhole) (arg5 : Memref sig .tc .vmem S32x17920 .f32) (harg5 : arg5.IsWhole) (arg6 : Memref sig .tc .vmem S1280x2560 .f32) (harg6 : arg6.IsWhole) (arg7 : Memref sig .tc .vmem S32x17920 .fp8e4m3) (harg7 : arg7.IsWhole) (arg8 : Memref sig .tc .vmem S32x1 .f32) (harg8 : arg8.IsWhole) (arg9 : Memref sig .tc .vmem S32x17920 .bf16) (harg9 : arg9.IsWhole) (hc0 : cond0_0 i)
    (x0 : Vec F S1024x1280 .bf16) (x1 : Vec F S1024x2560 .bf16) (x2 : Vec F S32x17920 .f32) : Vec F S32x1 .f32 :=
  VO0_5.read (Elt F) (VO0_5.writes (Elt F) VO0_5.junk (kernelRun0_A c i arg3 harg3 arg4 harg4 arg5 harg5 arg6 harg6 arg7 harg7 arg8 harg8 arg9 harg9 hc0 x0 x1 x2).2.2.1)

/-- Case A's pieces for output 6 tile its block (1 store of `S32x17920`, checked by evaluating `Piece.tiledL`), so they cover it. -/
theorem cover0_A_6 (c : Dev nD) (i : grid0.Coords) (arg3 : Memref sig .tc .vmem S1024x1280 .bf16) (harg3 : arg3.IsWhole) (arg4 : Memref sig .tc .vmem S1024x2560 .bf16) (harg4 : arg4.IsWhole) (arg5 : Memref sig .tc .vmem S32x17920 .f32) (harg5 : arg5.IsWhole) (arg6 : Memref sig .tc .vmem S1280x2560 .f32) (harg6 : arg6.IsWhole) (arg7 : Memref sig .tc .vmem S32x17920 .fp8e4m3) (harg7 : arg7.IsWhole) (arg8 : Memref sig .tc .vmem S32x1 .f32) (harg8 : arg8.IsWhole) (arg9 : Memref sig .tc .vmem S32x17920 .bf16) (harg9 : arg9.IsWhole) (hc0 : cond0_0 i)
    (x0 : Vec F S1024x1280 .bf16) (x1 : Vec F S1024x2560 .bf16) (x2 : Vec F S32x17920 .f32) (y : S32x17920.Idx) :
    ∃ pc ∈ (kernelRun0_A c i arg3 harg3 arg4 harg4 arg5 harg5 arg6 harg6 arg7 harg7 arg8 harg8 arg9 harg9 hc0 x0 x1 x2).2.2.2.1, y ∈ pc.1.set :=
  View.cover_of_tiledL (kernelRun0_A c i arg3 harg3 arg4 harg4 arg5 harg5 arg6 harg6 arg7 harg7 arg8 harg8 arg9 harg9 hc0 x0 x1 x2).2.2.2.1 S32x17920.size (by sl_kernel_rfl) y

/-- What case A leaves in output 6's staging buffer: its pieces read back over junk. -/
def out0_A_6 (c : Dev nD) (i : grid0.Coords) (arg3 : Memref sig .tc .vmem S1024x1280 .bf16) (harg3 : arg3.IsWhole) (arg4 : Memref sig .tc .vmem S1024x2560 .bf16) (harg4 : arg4.IsWhole) (arg5 : Memref sig .tc .vmem S32x17920 .f32) (harg5 : arg5.IsWhole) (arg6 : Memref sig .tc .vmem S1280x2560 .f32) (harg6 : arg6.IsWhole) (arg7 : Memref sig .tc .vmem S32x17920 .fp8e4m3) (harg7 : arg7.IsWhole) (arg8 : Memref sig .tc .vmem S32x1 .f32) (harg8 : arg8.IsWhole) (arg9 : Memref sig .tc .vmem S32x17920 .bf16) (harg9 : arg9.IsWhole) (hc0 : cond0_0 i)
    (x0 : Vec F S1024x1280 .bf16) (x1 : Vec F S1024x2560 .bf16) (x2 : Vec F S32x17920 .f32) : Vec F S32x17920 .bf16 :=
  VO0_6.read (Elt F) (VO0_6.writes (Elt F) VO0_6.junk (kernelRun0_A c i arg3 harg3 arg4 harg4 arg5 harg5 arg6 harg6 arg7 harg7 arg8 harg8 arg9 harg9 hc0 x0 x1 x2).2.2.2.1)

-- (the run's proof term is large: the definition's epilogue — `abstractNestedProofs` — walks it past the default budget)
set_option maxHeartbeats 1000000 in
/-- What the body's stores leave in each output's staging memref, as pieces (last first) IN CASE B (`scf.if` 0 not taken: points 1, 2, … 167: 140 of 168), WITH the
    proof that on whole staging memrefs — the inputs' at their contents, the outputs it reads before covering (3) at their running contents `xo·`, the other outputs' at
    anything, the body runs to the continuation holding the inputs' as they were,
    each output's buffer with its pieces written: the printed functions are their skeletons
    (`Gen.*_eq_skeleton`), which `sl_exec` runs — each `scf.if` decided by the case's hypotheses `hc·`; the pieces are
    the witness that run finds (assigned when `iexact` hands the buffer to the continuation). -/
noncomputable def kernelRun0_B (c : Dev nD) (i : grid0.Coords) (arg3 : Memref sig .tc .vmem S1024x1280 .bf16) (harg3 : arg3.IsWhole) (arg4 : Memref sig .tc .vmem S1024x2560 .bf16) (harg4 : arg4.IsWhole) (arg5 : Memref sig .tc .vmem S32x17920 .f32) (harg5 : arg5.IsWhole) (arg6 : Memref sig .tc .vmem S1280x2560 .f32) (harg6 : arg6.IsWhole) (arg7 : Memref sig .tc .vmem S32x17920 .fp8e4m3) (harg7 : arg7.IsWhole) (arg8 : Memref sig .tc .vmem S32x1 .f32) (harg8 : arg8.IsWhole) (arg9 : Memref sig .tc .vmem S32x17920 .bf16) (harg9 : arg9.IsWhole) (hc0 : ¬cond0_0 i)
    (x0 : Vec F S1024x1280 .bf16) (x1 : Vec F S1024x2560 .bf16) (x2 : Vec F S32x17920 .f32) (xo3 : Vec F S1280x2560 .f32) :
    Σ' (L3 : List (View.Piece (Elt F) S1280x2560 .f32)), Σ' (L4 : List (View.Piece (Elt F) S32x17920 .fp8e4m3)), Σ' (L5 : List (View.Piece (Elt F) S32x1 .f32)), { L6 : List (View.Piece (Elt F) S32x17920 .bf16) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xo3 ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg3 fullShare x0 ∗ owns (c : Thread nD τ) arg4 fullShare x1 ∗ owns (c : Thread nD τ) arg5 fullShare x2 ∗ (∃ f, arg6.view.loc (c : Thread nD τ) ↦[arg6.view.set]{fullShare} arg6.view.writes (Elt F) f L3) ∗ (∃ f, arg7.view.loc (c : Thread nD τ) ↦[arg7.view.set]{fullShare} arg7.view.writes (Elt F) f L4) ∗ (∃ f, arg8.view.loc (c : Thread nD τ) ↦[arg8.view.set]{fullShare} arg8.view.writes (Elt F) f L5) ∗ (∃ f, arg9.view.loc (c : Thread nD τ) ↦[arg9.view.set]{fullShare} arg9.view.writes (Elt F) f L6)) -∗ K ⟨⟩))
          ⊢ wp frame (wpE (defs₀ (F := F)) Variants.none c none) E (cc0_dw_quant i arg3 harg3 arg4 harg4 arg5 harg5 arg6 harg6 arg7 harg7 arg8 harg8 arg9 harg9) K } := by
  refine ⟨?_, ?_, ?_, ?_, fun E K => ?run⟩
  case run =>
    simp only [cc0_dw_quant_eq_skeleton]; unfold cc0_dw_quant_skel
    simp only [k0_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, Hk⟩
    obtain rfl := harg3.eq_unread hf0; obtain rfl := harg4.eq_unread hf1; obtain rfl := harg5.eq_unread hf2; obtain rfl := harg6.eq_unread hf3
    sl_exec (disch := first | sl_exact hc0)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    isplitl [H4]; · iexists _; iexact H4
    isplitl [H5]; · iexists _; iexact H5
    iexists _; iexact H6

/-- Case B's pieces for output 3 tile its block (1 store of `S1280x2560`, checked by evaluating `Piece.tiledL`), so they cover it. -/
theorem cover0_B_3 (c : Dev nD) (i : grid0.Coords) (arg3 : Memref sig .tc .vmem S1024x1280 .bf16) (harg3 : arg3.IsWhole) (arg4 : Memref sig .tc .vmem S1024x2560 .bf16) (harg4 : arg4.IsWhole) (arg5 : Memref sig .tc .vmem S32x17920 .f32) (harg5 : arg5.IsWhole) (arg6 : Memref sig .tc .vmem S1280x2560 .f32) (harg6 : arg6.IsWhole) (arg7 : Memref sig .tc .vmem S32x17920 .fp8e4m3) (harg7 : arg7.IsWhole) (arg8 : Memref sig .tc .vmem S32x1 .f32) (harg8 : arg8.IsWhole) (arg9 : Memref sig .tc .vmem S32x17920 .bf16) (harg9 : arg9.IsWhole) (hc0 : ¬cond0_0 i)
    (x0 : Vec F S1024x1280 .bf16) (x1 : Vec F S1024x2560 .bf16) (x2 : Vec F S32x17920 .f32) (xo3 : Vec F S1280x2560 .f32) (y : S1280x2560.Idx) :
    ∃ pc ∈ (kernelRun0_B c i arg3 harg3 arg4 harg4 arg5 harg5 arg6 harg6 arg7 harg7 arg8 harg8 arg9 harg9 hc0 x0 x1 x2 xo3).1, y ∈ pc.1.set :=
  View.cover_of_tiledL (kernelRun0_B c i arg3 harg3 arg4 harg4 arg5 harg5 arg6 harg6 arg7 harg7 arg8 harg8 arg9 harg9 hc0 x0 x1 x2 xo3).1 S1280x2560.size (by sl_kernel_rfl) y

/-- What case B leaves in output 3's staging buffer: its pieces read back over junk. -/
def out0_B_3 (c : Dev nD) (i : grid0.Coords) (arg3 : Memref sig .tc .vmem S1024x1280 .bf16) (harg3 : arg3.IsWhole) (arg4 : Memref sig .tc .vmem S1024x2560 .bf16) (harg4 : arg4.IsWhole) (arg5 : Memref sig .tc .vmem S32x17920 .f32) (harg5 : arg5.IsWhole) (arg6 : Memref sig .tc .vmem S1280x2560 .f32) (harg6 : arg6.IsWhole) (arg7 : Memref sig .tc .vmem S32x17920 .fp8e4m3) (harg7 : arg7.IsWhole) (arg8 : Memref sig .tc .vmem S32x1 .f32) (harg8 : arg8.IsWhole) (arg9 : Memref sig .tc .vmem S32x17920 .bf16) (harg9 : arg9.IsWhole) (hc0 : ¬cond0_0 i)
    (x0 : Vec F S1024x1280 .bf16) (x1 : Vec F S1024x2560 .bf16) (x2 : Vec F S32x17920 .f32) (xo3 : Vec F S1280x2560 .f32) : Vec F S1280x2560 .f32 :=
  VO0_3.read (Elt F) (VO0_3.writes (Elt F) VO0_3.junk (kernelRun0_B c i arg3 harg3 arg4 harg4 arg5 harg5 arg6 harg6 arg7 harg7 arg8 harg8 arg9 harg9 hc0 x0 x1 x2 xo3).1)

/-- Case B's pieces for output 4 tile its block (1 store of `S32x17920`, checked by evaluating `Piece.tiledL`), so they cover it. -/
theorem cover0_B_4 (c : Dev nD) (i : grid0.Coords) (arg3 : Memref sig .tc .vmem S1024x1280 .bf16) (harg3 : arg3.IsWhole) (arg4 : Memref sig .tc .vmem S1024x2560 .bf16) (harg4 : arg4.IsWhole) (arg5 : Memref sig .tc .vmem S32x17920 .f32) (harg5 : arg5.IsWhole) (arg6 : Memref sig .tc .vmem S1280x2560 .f32) (harg6 : arg6.IsWhole) (arg7 : Memref sig .tc .vmem S32x17920 .fp8e4m3) (harg7 : arg7.IsWhole) (arg8 : Memref sig .tc .vmem S32x1 .f32) (harg8 : arg8.IsWhole) (arg9 : Memref sig .tc .vmem S32x17920 .bf16) (harg9 : arg9.IsWhole) (hc0 : ¬cond0_0 i)
    (x0 : Vec F S1024x1280 .bf16) (x1 : Vec F S1024x2560 .bf16) (x2 : Vec F S32x17920 .f32) (xo3 : Vec F S1280x2560 .f32) (y : S32x17920.Idx) :
    ∃ pc ∈ (kernelRun0_B c i arg3 harg3 arg4 harg4 arg5 harg5 arg6 harg6 arg7 harg7 arg8 harg8 arg9 harg9 hc0 x0 x1 x2 xo3).2.1, y ∈ pc.1.set :=
  View.cover_of_tiledL (kernelRun0_B c i arg3 harg3 arg4 harg4 arg5 harg5 arg6 harg6 arg7 harg7 arg8 harg8 arg9 harg9 hc0 x0 x1 x2 xo3).2.1 S32x17920.size (by sl_kernel_rfl) y

/-- What case B leaves in output 4's staging buffer: its pieces read back over junk. -/
def out0_B_4 (c : Dev nD) (i : grid0.Coords) (arg3 : Memref sig .tc .vmem S1024x1280 .bf16) (harg3 : arg3.IsWhole) (arg4 : Memref sig .tc .vmem S1024x2560 .bf16) (harg4 : arg4.IsWhole) (arg5 : Memref sig .tc .vmem S32x17920 .f32) (harg5 : arg5.IsWhole) (arg6 : Memref sig .tc .vmem S1280x2560 .f32) (harg6 : arg6.IsWhole) (arg7 : Memref sig .tc .vmem S32x17920 .fp8e4m3) (harg7 : arg7.IsWhole) (arg8 : Memref sig .tc .vmem S32x1 .f32) (harg8 : arg8.IsWhole) (arg9 : Memref sig .tc .vmem S32x17920 .bf16) (harg9 : arg9.IsWhole) (hc0 : ¬cond0_0 i)
    (x0 : Vec F S1024x1280 .bf16) (x1 : Vec F S1024x2560 .bf16) (x2 : Vec F S32x17920 .f32) (xo3 : Vec F S1280x2560 .f32) : Vec F S32x17920 .fp8e4m3 :=
  VO0_4.read (Elt F) (VO0_4.writes (Elt F) VO0_4.junk (kernelRun0_B c i arg3 harg3 arg4 harg4 arg5 harg5 arg6 harg6 arg7 harg7 arg8 harg8 arg9 harg9 hc0 x0 x1 x2 xo3).2.1)

/-- Case B's pieces for output 5 tile its block (1 store of `S32x1`, checked by evaluating `Piece.tiledL`), so they cover it. -/
theorem cover0_B_5 (c : Dev nD) (i : grid0.Coords) (arg3 : Memref sig .tc .vmem S1024x1280 .bf16) (harg3 : arg3.IsWhole) (arg4 : Memref sig .tc .vmem S1024x2560 .bf16) (harg4 : arg4.IsWhole) (arg5 : Memref sig .tc .vmem S32x17920 .f32) (harg5 : arg5.IsWhole) (arg6 : Memref sig .tc .vmem S1280x2560 .f32) (harg6 : arg6.IsWhole) (arg7 : Memref sig .tc .vmem S32x17920 .fp8e4m3) (harg7 : arg7.IsWhole) (arg8 : Memref sig .tc .vmem S32x1 .f32) (harg8 : arg8.IsWhole) (arg9 : Memref sig .tc .vmem S32x17920 .bf16) (harg9 : arg9.IsWhole) (hc0 : ¬cond0_0 i)
    (x0 : Vec F S1024x1280 .bf16) (x1 : Vec F S1024x2560 .bf16) (x2 : Vec F S32x17920 .f32) (xo3 : Vec F S1280x2560 .f32) (y : S32x1.Idx) :
    ∃ pc ∈ (kernelRun0_B c i arg3 harg3 arg4 harg4 arg5 harg5 arg6 harg6 arg7 harg7 arg8 harg8 arg9 harg9 hc0 x0 x1 x2 xo3).2.2.1, y ∈ pc.1.set :=
  View.cover_of_tiledL (kernelRun0_B c i arg3 harg3 arg4 harg4 arg5 harg5 arg6 harg6 arg7 harg7 arg8 harg8 arg9 harg9 hc0 x0 x1 x2 xo3).2.2.1 S32x1.size (by sl_kernel_rfl) y

/-- What case B leaves in output 5's staging buffer: its pieces read back over junk. -/
def out0_B_5 (c : Dev nD) (i : grid0.Coords) (arg3 : Memref sig .tc .vmem S1024x1280 .bf16) (harg3 : arg3.IsWhole) (arg4 : Memref sig .tc .vmem S1024x2560 .bf16) (harg4 : arg4.IsWhole) (arg5 : Memref sig .tc .vmem S32x17920 .f32) (harg5 : arg5.IsWhole) (arg6 : Memref sig .tc .vmem S1280x2560 .f32) (harg6 : arg6.IsWhole) (arg7 : Memref sig .tc .vmem S32x17920 .fp8e4m3) (harg7 : arg7.IsWhole) (arg8 : Memref sig .tc .vmem S32x1 .f32) (harg8 : arg8.IsWhole) (arg9 : Memref sig .tc .vmem S32x17920 .bf16) (harg9 : arg9.IsWhole) (hc0 : ¬cond0_0 i)
    (x0 : Vec F S1024x1280 .bf16) (x1 : Vec F S1024x2560 .bf16) (x2 : Vec F S32x17920 .f32) (xo3 : Vec F S1280x2560 .f32) : Vec F S32x1 .f32 :=
  VO0_5.read (Elt F) (VO0_5.writes (Elt F) VO0_5.junk (kernelRun0_B c i arg3 harg3 arg4 harg4 arg5 harg5 arg6 harg6 arg7 harg7 arg8 harg8 arg9 harg9 hc0 x0 x1 x2 xo3).2.2.1)

/-- Case B's pieces for output 6 tile its block (1 store of `S32x17920`, checked by evaluating `Piece.tiledL`), so they cover it. -/
theorem cover0_B_6 (c : Dev nD) (i : grid0.Coords) (arg3 : Memref sig .tc .vmem S1024x1280 .bf16) (harg3 : arg3.IsWhole) (arg4 : Memref sig .tc .vmem S1024x2560 .bf16) (harg4 : arg4.IsWhole) (arg5 : Memref sig .tc .vmem S32x17920 .f32) (harg5 : arg5.IsWhole) (arg6 : Memref sig .tc .vmem S1280x2560 .f32) (harg6 : arg6.IsWhole) (arg7 : Memref sig .tc .vmem S32x17920 .fp8e4m3) (harg7 : arg7.IsWhole) (arg8 : Memref sig .tc .vmem S32x1 .f32) (harg8 : arg8.IsWhole) (arg9 : Memref sig .tc .vmem S32x17920 .bf16) (harg9 : arg9.IsWhole) (hc0 : ¬cond0_0 i)
    (x0 : Vec F S1024x1280 .bf16) (x1 : Vec F S1024x2560 .bf16) (x2 : Vec F S32x17920 .f32) (xo3 : Vec F S1280x2560 .f32) (y : S32x17920.Idx) :
    ∃ pc ∈ (kernelRun0_B c i arg3 harg3 arg4 harg4 arg5 harg5 arg6 harg6 arg7 harg7 arg8 harg8 arg9 harg9 hc0 x0 x1 x2 xo3).2.2.2.1, y ∈ pc.1.set :=
  View.cover_of_tiledL (kernelRun0_B c i arg3 harg3 arg4 harg4 arg5 harg5 arg6 harg6 arg7 harg7 arg8 harg8 arg9 harg9 hc0 x0 x1 x2 xo3).2.2.2.1 S32x17920.size (by sl_kernel_rfl) y

/-- What case B leaves in output 6's staging buffer: its pieces read back over junk. -/
def out0_B_6 (c : Dev nD) (i : grid0.Coords) (arg3 : Memref sig .tc .vmem S1024x1280 .bf16) (harg3 : arg3.IsWhole) (arg4 : Memref sig .tc .vmem S1024x2560 .bf16) (harg4 : arg4.IsWhole) (arg5 : Memref sig .tc .vmem S32x17920 .f32) (harg5 : arg5.IsWhole) (arg6 : Memref sig .tc .vmem S1280x2560 .f32) (harg6 : arg6.IsWhole) (arg7 : Memref sig .tc .vmem S32x17920 .fp8e4m3) (harg7 : arg7.IsWhole) (arg8 : Memref sig .tc .vmem S32x1 .f32) (harg8 : arg8.IsWhole) (arg9 : Memref sig .tc .vmem S32x17920 .bf16) (harg9 : arg9.IsWhole) (hc0 : ¬cond0_0 i)
    (x0 : Vec F S1024x1280 .bf16) (x1 : Vec F S1024x2560 .bf16) (x2 : Vec F S32x17920 .f32) (xo3 : Vec F S1280x2560 .f32) : Vec F S32x17920 .bf16 :=
  VO0_6.read (Elt F) (VO0_6.writes (Elt F) VO0_6.junk (kernelRun0_B c i arg3 harg3 arg4 harg4 arg5 harg5 arg6 harg6 arg7 harg7 arg8 harg8 arg9 harg9 hc0 x0 x1 x2 xo3).2.2.2.1)

/-! ## What the outputs hold after each point -/

/-- THE ACCUMULATION. What the outputs' staging buffers hold after the body at position `n` (a tuple, in window order):
    the case the closed forms select at `n`, run at the point's memrefs and input blocks, an output it reads before covering
    at what this leaves at `n - 1` (its buffer is not written back between: `before0_W_κ`). An assignment of the conditions no point meets is no case (`False.elim`). -/
def outsAt0 (c : Dev nD) : (n : ℕ) → n < cfg0.N → Vec F S1280x2560 .f32 × Vec F S32x17920 .fp8e4m3 × Vec F S32x1 .f32 × Vec F S32x17920 .bf16
  | 0, hn => (out0_A_3 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) ((hcond0_0 ⟨0, hn⟩).mpr (Nat.zero_mod _)) (iblk0 V c 0 ⟨0, hn⟩) (iblk0 V c 1 ⟨0, hn⟩) (iblk0 V c 2 ⟨0, hn⟩), out0_A_4 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) ((hcond0_0 ⟨0, hn⟩).mpr (Nat.zero_mod _)) (iblk0 V c 0 ⟨0, hn⟩) (iblk0 V c 1 ⟨0, hn⟩) (iblk0 V c 2 ⟨0, hn⟩), out0_A_5 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) ((hcond0_0 ⟨0, hn⟩).mpr (Nat.zero_mod _)) (iblk0 V c 0 ⟨0, hn⟩) (iblk0 V c 1 ⟨0, hn⟩) (iblk0 V c 2 ⟨0, hn⟩), out0_A_6 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) ((hcond0_0 ⟨0, hn⟩).mpr (Nat.zero_mod _)) (iblk0 V c 0 ⟨0, hn⟩) (iblk0 V c 1 ⟨0, hn⟩) (iblk0 V c 2 ⟨0, hn⟩))
  | n + 1, hn =>
    if h0 : (n + 1) % 6 = 0 then
      (out0_A_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) ((hcond0_0 ⟨n + 1, hn⟩).mpr h0) (iblk0 V c 0 ⟨n + 1, hn⟩) (iblk0 V c 1 ⟨n + 1, hn⟩) (iblk0 V c 2 ⟨n + 1, hn⟩), out0_A_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) ((hcond0_0 ⟨n + 1, hn⟩).mpr h0) (iblk0 V c 0 ⟨n + 1, hn⟩) (iblk0 V c 1 ⟨n + 1, hn⟩) (iblk0 V c 2 ⟨n + 1, hn⟩), out0_A_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) ((hcond0_0 ⟨n + 1, hn⟩).mpr h0) (iblk0 V c 0 ⟨n + 1, hn⟩) (iblk0 V c 1 ⟨n + 1, hn⟩) (iblk0 V c 2 ⟨n + 1, hn⟩), out0_A_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) ((hcond0_0 ⟨n + 1, hn⟩).mpr h0) (iblk0 V c 0 ⟨n + 1, hn⟩) (iblk0 V c 1 ⟨n + 1, hn⟩) (iblk0 V c 2 ⟨n + 1, hn⟩))
    else
      (out0_B_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (fun h => h0 ((hcond0_0 ⟨n + 1, hn⟩).mp h)) (iblk0 V c 0 ⟨n + 1, hn⟩) (iblk0 V c 1 ⟨n + 1, hn⟩) (iblk0 V c 2 ⟨n + 1, hn⟩) (outsAt0 c n (Nat.lt_of_succ_lt hn)).1, out0_B_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (fun h => h0 ((hcond0_0 ⟨n + 1, hn⟩).mp h)) (iblk0 V c 0 ⟨n + 1, hn⟩) (iblk0 V c 1 ⟨n + 1, hn⟩) (iblk0 V c 2 ⟨n + 1, hn⟩) (outsAt0 c n (Nat.lt_of_succ_lt hn)).1, out0_B_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (fun h => h0 ((hcond0_0 ⟨n + 1, hn⟩).mp h)) (iblk0 V c 0 ⟨n + 1, hn⟩) (iblk0 V c 1 ⟨n + 1, hn⟩) (iblk0 V c 2 ⟨n + 1, hn⟩) (outsAt0 c n (Nat.lt_of_succ_lt hn)).1, out0_B_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (fun h => h0 ((hcond0_0 ⟨n + 1, hn⟩).mp h)) (iblk0 V c 0 ⟨n + 1, hn⟩) (iblk0 V c 1 ⟨n + 1, hn⟩) (iblk0 V c 2 ⟨n + 1, hn⟩) (outsAt0 c n (Nat.lt_of_succ_lt hn)).1)

/-- `outsAt0` at a point of case A: that case's contents. -/
theorem outsAt0_A (c : Dev nD) (t : Fin cfg0.N) (h0 : t.val % 6 = 0) :
    outsAt0 V c t.val t.isLt = (out0_A_3 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) ((hcond0_0 t).mpr h0) (iblk0 V c 0 t) (iblk0 V c 1 t) (iblk0 V c 2 t), out0_A_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) ((hcond0_0 t).mpr h0) (iblk0 V c 0 t) (iblk0 V c 1 t) (iblk0 V c 2 t), out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) ((hcond0_0 t).mpr h0) (iblk0 V c 0 t) (iblk0 V c 1 t) (iblk0 V c 2 t), out0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) ((hcond0_0 t).mpr h0) (iblk0 V c 0 t) (iblk0 V c 1 t) (iblk0 V c 2 t)) := by
  obtain ⟨n, hn⟩ := t
  cases n with
  | zero => exact rfl
  | succ n => exact (dif_pos h0).trans rfl

/-- `outsAt0` at a point of case B: that case's contents, over what the point before left. -/
theorem outsAt0_B (c : Dev nD) (t : Fin cfg0.N) (h0 : ¬t.val % 6 = 0) :
    outsAt0 V c t.val t.isLt = (out0_B_3 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (fun h => h0 ((hcond0_0 t).mp h)) (iblk0 V c 0 t) (iblk0 V c 1 t) (iblk0 V c 2 t) (outsAt0 V c (t.val - 1) (Nat.lt_of_le_of_lt (Nat.sub_le _ _) t.isLt)).1, out0_B_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (fun h => h0 ((hcond0_0 t).mp h)) (iblk0 V c 0 t) (iblk0 V c 1 t) (iblk0 V c 2 t) (outsAt0 V c (t.val - 1) (Nat.lt_of_le_of_lt (Nat.sub_le _ _) t.isLt)).1, out0_B_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (fun h => h0 ((hcond0_0 t).mp h)) (iblk0 V c 0 t) (iblk0 V c 1 t) (iblk0 V c 2 t) (outsAt0 V c (t.val - 1) (Nat.lt_of_le_of_lt (Nat.sub_le _ _) t.isLt)).1, out0_B_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (fun h => h0 ((hcond0_0 t).mp h)) (iblk0 V c 0 t) (iblk0 V c 1 t) (iblk0 V c 2 t) (outsAt0 V c (t.val - 1) (Nat.lt_of_le_of_lt (Nat.sub_le _ _) t.isLt)).1) := by
  obtain ⟨n, hn⟩ := t
  cases n with
  | zero => exact (by exfalso; (try dsimp only at h0); exact absurd (Nat.zero_mod _) h0)
  | succ n => exact (dif_neg h0).trans rfl

/-! ## The pipeline's proof data -/

/-- The proof data of pipeline 0 on core `c`: the arrays as the region finds them (`V`); after the body at
    point `t` each input's buffer at its block and the outputs' at `outsAt0`; the invariant the class's
   ; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => (outsAt0 V c t.val t.isLt).1
    | ⟨4, _⟩ => (outsAt0 V c t.val t.isLt).2.1
    | ⟨5, _⟩ => (outsAt0 V c t.val t.isLt).2.2.1
    | ⟨6, _⟩ => (outsAt0 V c t.val t.isLt).2.2.2
  Φ _ := Pipeline.ΦA spec0 c
  q _ := fullShare
  owed _ := 0

/-- The proof data's arrays are the region-entry contents, by projecting the definition (`dsimp`): a region record cites
    this for its arrays rather than have Lean unfold `V`, the fold through @main up to the region's entry. -/
theorem A_eq0 (c : Dev nD) (w : Fin cfg0.W) : (dat0 V c).A w = V c (Pipeline.arrRef spec0 w) := by
  dsimp only [dat0]

/-- What the body leaves, window by window (the proof data's `match` reduced by `dsimp`). -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = (outsAt0 V c t.val t.isLt).1 := by dsimp only [dat0]
theorem after0_4 (c : Dev nD) (t : Fin cfg0.N) : (dat0 V c).after 4 t = (outsAt0 V c t.val t.isLt).2.1 := by dsimp only [dat0]
theorem after0_5 (c : Dev nD) (t : Fin cfg0.N) : (dat0 V c).after 5 t = (outsAt0 V c t.val t.isLt).2.2.1 := by dsimp only [dat0]
theorem after0_6 (c : Dev nD) (t : Fin cfg0.N) : (dat0 V c).after 6 t = (outsAt0 V c t.val t.isLt).2.2.2 := by dsimp only [dat0]

/-- Each input's current staging buffer holds its block at every point, fetched there or not (`beforeK_W_of`). -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
/-- At a point of case B output 3's current staging buffer holds what the body left at the point before: the point is
    not the first, the buffer was not written back between (`flush0_3`), the window is live and uncut. -/
theorem before0_3_B (c : Dev nD) (t : Fin cfg0.N) (h0 : ¬t.val % 6 = 0) (d) :
    (dat0 V c).before 3 t d = (outsAt0 V c (t.val - 1) (Nat.lt_of_le_of_lt (Nat.sub_le _ _) t.isLt)).1 := by
  have hN : t.val < 168 := lt_of_lt_of_eq t.isLt (show cfg0.N = 168 from N_0)
  rw [Dat.before_out_kept _ 3 rfl t (by omega) (Bool.eq_false_iff.mpr fun h => by have := (flush0_3 _).mp h; dsimp only at this; omega)
    (fun _ => rfl) (fun _ _ => rfl)]
  dsimp only [dat0]

/-! ## The body obligation, at a generic point -/

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d))
    ∗ (∃ d, owns (c : Thread nD τ) (ms0_6 t) fullShare ((dat0 V c).before 6 t d)))

/-- and what it returns. -/
def bodyPost0 (c : Dev nD) (t : Fin cfg0.N) : sProp 𝕄 :=
  iprop((dat0 V c).Φ t.succ ∗ (dat0 V c).owesAt () t.succ
    ∗ owns (c : Thread nD τ) (ms0_0 t) fullShare ((dat0 V c).after 0 t)
    ∗ owns (c : Thread nD τ) (ms0_1 t) fullShare ((dat0 V c).after 1 t)
    ∗ owns (c : Thread nD τ) (ms0_2 t) fullShare ((dat0 V c).after 2 t)
    ∗ owns (c : Thread nD τ) (ms0_3 t) fullShare ((dat0 V c).after 3 t)
    ∗ owns (c : Thread nD τ) (ms0_4 t) fullShare ((dat0 V c).after 4 t)
    ∗ owns (c : Thread nD τ) (ms0_5 t) fullShare ((dat0 V c).after 5 t)
    ∗ owns (c : Thread nD τ) (ms0_6 t) fullShare ((dat0 V c).after 6 t))

set_option maxHeartbeats 800000 in
/-- The body at any point: the inputs' memrefs hold their blocks (`before0_W`); the closed forms say which case the point is in (`by_cases`), an output the case reads before covering holds what the point before left (`before0_W_κ`); so the
    run applies; the invariant passes through unread; the core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6]
  have hN : t.val < 168 := lt_of_lt_of_eq t.isLt (show cfg0.N = 168 from N_0)
  by_cases h0 : t.val % 6 = 0
  · rw [outsAt0_A V c t h0]
    unfold out0_A_3 out0_A_4 out0_A_5 out0_A_6; (try dsimp only)
    iintro ⟨HΦ, Ho, ⟨%d0, H0⟩, ⟨%d1, H1⟩, ⟨%d2, H2⟩, ⟨%d3, H3⟩, ⟨%d4, H4⟩, ⟨%d5, H5⟩, ⟨%d6, H6⟩⟩
    iapply ((kernelRun0_A c (grid0.coords t) _ _ _ _ _ _ _ _ _ _ _ _ _ _ ((hcond0_0 t).mpr h0) (iblk0 V c 0 t) (iblk0 V c 1 t) (iblk0 V c 2 t)).2.2.2.2 Set.univ _)
    isplitl [H0]; · iexact H0
    isplitl [H1]; · iexact H1
    isplitl [H2]; · iexact H2
    isplitl [H3]; · iexists _; iexact H3
    isplitl [H4]; · iexists _; iexact H4
    isplitl [H5]; · iexists _; iexact H5
    isplitl [H6]; · iexists _; iexact H6
    iintro ⟨H0, H1, H2, ⟨%e3, H3⟩, ⟨%e4, H4⟩, ⟨%e5, H5⟩, ⟨%e6, H6⟩⟩
    isplitl [HΦ]; · iexact HΦ
    isplitl [Ho]; · iexact Ho
    isplitl [H0]; · iexact H0
    isplitl [H1]; · iexact H1
    isplitl [H2]; · iexact H2
    isplitl [H3]
    · unfold owns; iexists _; isplitr
      swap; · iexact H3
      ipureintro; exact View.read_writes_of_cover _ _ _ _ _ (cover0_A_3 c _ _ _ _ _ _ _ _ _ _ _ _ _ _ _ _ _ _ _)
    isplitl [H4]
    · unfold owns; iexists _; isplitr
      swap; · iexact H4
      ipureintro; exact View.read_writes_of_cover _ _ _ _ _ (cover0_A_4 c _ _ _ _ _ _ _ _ _ _ _ _ _ _ _ _ _ _ _)
    isplitl [H5]
    · unfold owns; iexists _; isplitr
      swap; · iexact H5
      ipureintro; exact View.read_writes_of_cover _ _ _ _ _ (cover0_A_5 c _ _ _ _ _ _ _ _ _ _ _ _ _ _ _ _ _ _ _)
    unfold owns; iexists _; isplitr
    swap; · iexact H6
    ipureintro; exact View.read_writes_of_cover _ _ _ _ _ (cover0_A_6 c _ _ _ _ _ _ _ _ _ _ _ _ _ _ _ _ _ _ _)
  · rw [outsAt0_B V c t h0]
    simp only [before0_3_B V c t h0]
    unfold out0_B_3 out0_B_4 out0_B_5 out0_B_6; (try dsimp only)
    iintro ⟨HΦ, Ho, ⟨%d0, H0⟩, ⟨%d1, H1⟩, ⟨%d2, H2⟩, ⟨%d3, H3⟩, ⟨%d4, H4⟩, ⟨%d5, H5⟩, ⟨%d6, H6⟩⟩
    iapply ((kernelRun0_B c (grid0.coords t) _ _ _ _ _ _ _ _ _ _ _ _ _ _ (fun h => h0 ((hcond0_0 t).mp h)) (iblk0 V c 0 t) (iblk0 V c 1 t) (iblk0 V c 2 t) _).2.2.2.2 Set.univ _)
    isplitl [H0]; · iexact H0
    isplitl [H1]; · iexact H1
    isplitl [H2]; · iexact H2
    isplitl [H3]; · iexact H3
    isplitl [H4]; · iexists _; iexact H4
    isplitl [H5]; · iexists _; iexact H5
    isplitl [H6]; · iexists _; iexact H6
    iintro ⟨H0, H1, H2, ⟨%e3, H3⟩, ⟨%e4, H4⟩, ⟨%e5, H5⟩, ⟨%e6, H6⟩⟩
    isplitl [HΦ]; · iexact HΦ
    isplitl [Ho]; · iexact Ho
    isplitl [H0]; · iexact H0
    isplitl [H1]; · iexact H1
    isplitl [H2]; · iexact H2
    isplitl [H3]
    · unfold owns; iexists _; isplitr
      swap; · iexact H3
      ipureintro; exact View.read_writes_of_cover _ _ _ _ _ (cover0_B_3 c _ _ _ _ _ _ _ _ _ _ _ _ _ _ _ _ _ _ _ _)
    isplitl [H4]
    · unfold owns; iexists _; isplitr
      swap; · iexact H4
      ipureintro; exact View.read_writes_of_cover _ _ _ _ _ (cover0_B_4 c _ _ _ _ _ _ _ _ _ _ _ _ _ _ _ _ _ _ _ _)
    isplitl [H5]
    · unfold owns; iexists _; isplitr
      swap; · iexact H5
      ipureintro; exact View.read_writes_of_cover _ _ _ _ _ (cover0_B_5 c _ _ _ _ _ _ _ _ _ _ _ _ _ _ _ _ _ _ _ _)
    unfold owns; iexists _; isplitr
    swap; · iexact H6
    ipureintro; exact View.read_writes_of_cover _ _ _ _ _ (cover0_B_6 c _ _ _ _ _ _ _ _ _ _ _ _ _ _ _ _ _ _ _ _)

/-- The body table's row at point `t`'s slots is the body as `bodyAt0` spells it. -/
theorem defs₀_row0 (t : Fin cfg0.N) :
    defs₀ (F := F) .tc cfg0.body (cfg0.bodyArgs t (cfg0.slots t)) = bodyAt0 t := by
  unfold defs₀; rw [Defs.onTc_tc]

/-- The library's body obligation, at every point: the body's triple restated. -/
theorem body_obligation0 (c : Dev nD) : BodyObligation (dat0 (F := F) V c) (defs₀ (F := F)) Variants.none () Set.univ := fun t => by
  rw [bigSep_W0, bigSep_W0, defs₀_row0]
  exact triple_restated (sound_body0 V c t) rfl .rfl fun _ => .rfl

end Cert.KernelIdeal.Calls

end
-- ==== Proof.Products.lean ====
/- The three products of the layer over the reals, as sums: what the kernel's calls and the reference are both compared with. -/
module

public import Idealize.ShloMosaic.Lib.Pipeline.ValueKit

@[expose] public section

set_option maxRecDepth 16384

noncomputable section

namespace Cert.Products

open Idealize.ShloMosaic

/-- The 6144 tokens by the 17920 inputs. -/
abbrev SX : Shape := ⟨2, ![6144, 17920]⟩
/-- The 6144 tokens by the 5120 outputs. -/
abbrev SG : Shape := ⟨2, ![6144, 5120]⟩
/-- The 5120 outputs by the 17920 inputs. -/
abbrev SW : Shape := ⟨2, ![5120, 17920]⟩

/-- The forward product: token `i 0`, output `i 1`, summed over the inputs. -/
def prodY (X : FVec Ideal SX .bf16) (W : FVec Ideal SW .bf16) : SG.Idx → EReal :=
  fun i => ∑ k : Fin 17920, X (ix2 (i 0) k) * W (ix2 (i 1) k)

/-- The input gradient: token `i 0`, input `i 1`, summed over the outputs. -/
def prodDx (G : FVec Ideal SG .bf16) (W : FVec Ideal SW .bf16) : SX.Idx → EReal :=
  fun i => ∑ k : Fin 5120, G (ix2 (i 0) k) * W (ix2 k (i 1))

/-- The weight gradient: output `i 0`, input `i 1`, summed over the tokens. -/
def prodDw (G : FVec Ideal SG .bf16) (X : FVec Ideal SX .bf16) : SW.Idx → EReal :=
  fun i => ∑ k : Fin 6144, G (ix2 k (i 0)) * X (ix2 k (i 1))

end Cert.Products

end
-- ==== Proof.Quant.lean ====
/- The quantiser's arithmetic on one row: the kernel's power of two, built out of exponent bits, is the reference's, built out of a logarithm. -/
module

public import Idealize.ShloMosaic.Lib.Pipeline.ValueKit

@[expose] public section

set_option maxRecDepth 16384

noncomputable section

namespace Cert.Quant

open Idealize.ShloMosaic

/-- The largest magnitude of a row. -/
def amax {m : ℕ} (f : Fin m → Ideal .f32) : Ideal .f32 :=
  Finset.univ.fold max (Ideal.ofBits .f32 0xFF800000#32) fun k => FloatOps.absf (f k)

/-- The largest magnitude over the largest fp8 value: the number whose power of two the scale takes up. -/
def quot (a : Ideal .f32) : Ideal .f32 := a * Ideal.ofBits .f32 0x3B124925#32

/-- The float whose exponent bits are `b` and whose other bits are zero. -/
def word (b : BitVec 32) : Ideal .f32 := Ideal.ofBits .f32 (IntOp.shli .vector b 23#32)

/-- The kernel's biased exponent of `v`: the greatest exponent field whose power of two is at most `v`. -/
def lane (v : Ideal .f32) : BitVec 32 :=
  Finset.fold IntOp.maxsi 2147483648#32
    (fun x : Fin 256 => if word (BitVec.ofNat 32 x) ≤ v then BitVec.ofNat 32 x else 0#32) Finset.univ

/-- The kernel's exponent of the scale. -/
def kexp (v : Ideal .f32) : BitVec 32 :=
  Scalar.select (IntOp.ori (IntOp.cmpi .eq (lane v) 0#32) (IntOp.cmpi .eq (lane v) 255#32)) 0#32 (IntOp.subi (lane v) 126#32)

/-- The kernel's scale. -/
def kscale (a : Ideal .f32) : Ideal .f32 := word (IntOp.addi 127#32 (kexp (quot a)))

/-- The kernel's inverse scale. -/
def kinv (a : Ideal .f32) : Ideal .f32 := word (IntOp.subi 127#32 (kexp (quot a)))

/-- The reference's exponent of the scale. -/
def rexp (a : Ideal .f32) : Ideal .f32 :=
  if a = 0 then 0 else Ideal.liftRound Int.floor (Ideal.div (Ideal.log (quot a)) (Ideal.log (Ideal.ofBits .f32 0x40000000#32))) + 1

/-- The reference's scale. -/
def rscale (a : Ideal .f32) : Ideal .f32 := Ideal.exp2 (rexp a)

/-- The reference's inverse scale. -/
def rinv (a : Ideal .f32) : Ideal .f32 := Ideal.exp2 (0 - rexp a)

/-- A weight by an inverse scale, clipped to the fp8 range. -/
def code (x s : Ideal .f32) : Ideal .f32 :=
  min (Ideal.ofBits .f32 0x43E00000#32) (max (Ideal.ofBits .f32 0xC3E00000#32) (x * s))

/-- A row's largest magnitude is zero, or a finite number whose quotient by the largest fp8 value is normal. -/
def Ok (a : Ideal .f32) : Prop :=
  a = 0 ∨ (Ideal.ofBits .f32 0x00800000#32 ≤ quot a ∧ a ≤ Ideal.ofBits .f32 0x7F7FFFFF#32)

theorem fields : ∀ n : Fin 256, ((IntOp.shli .vector (BitVec.ofNat 32 n) 23#32).extractLsb' 31 1 == 1#1) = false
    ∧ ((IntOp.shli .vector (BitVec.ofNat 32 n) 23#32).extractLsb' 23 8).toNat = n
    ∧ ((IntOp.shli .vector (BitVec.ofNat 32 n) 23#32).extractLsb' 0 23).toNat = 0 := by decide +kernel

/-- The exponent field 0 is zero. -/
theorem word_zero : word (BitVec.ofNat 32 0) = 0 := by
  obtain ⟨h1, h2, h3⟩ := fields 0
  simp only [Fin.val_zero] at h1 h2 h3
  simp [word, Ideal.ofBits, Ideal.ieee, h1, h2, h3]

/-- The exponent field 255 is infinity. -/
theorem word_top : word (BitVec.ofNat 32 255) = ⊤ := by
  obtain ⟨h1, h2, h3⟩ := fields 255
  have e : ((255 : Fin 256) : ℕ) = 255 := rfl
  rw [e] at h1 h2 h3
  simp [word, Ideal.ofBits, Ideal.ieee, h1, h2, h3]

theorem pow_split (z : ℤ) : (2 : ℝ) ^ z = 8388608 * (2 : ℝ) ^ (z - 23) := by
  conv_lhs => rw [show z = 23 + (z - 23) by ring, zpow_add₀ two_ne_zero]
  norm_num

/-- Every other exponent field is its power of two. -/
theorem word_mid (n : ℕ) (h0 : 1 ≤ n) (h1 : n ≤ 254) : word (BitVec.ofNat 32 n) = (((2 : ℝ) ^ ((n : ℤ) - 127) : ℝ) : EReal) := by
  obtain ⟨e1, e2, e3⟩ := fields ⟨n, by omega⟩
  have hn : ¬ n = 0 := by omega
  have hn' : ¬ n = 2 ^ 8 - 1 := by omega
  simp only at e1 e2 e3
  unfold word Ideal.ofBits Ideal.ieee
  simp only [e1, e2, e3]
  rw [if_neg hn', if_neg hn, pow_split ((n : ℤ) - 127)]
  norm_num

theorem lane_table : ∀ n : Fin 256, Finset.fold IntOp.maxsi 2147483648#32
    (fun x : Fin 256 => if x ≤ n then BitVec.ofNat 32 x else 0#32) Finset.univ = BitVec.ofNat 32 n := by decide +kernel

/-- The kernel's biased exponent, from where its powers of two pass `v`. -/
theorem lane_eq (v : Ideal .f32) (n : Fin 256) (h : ∀ x : Fin 256, word (BitVec.ofNat 32 x) ≤ v ↔ x ≤ n) : lane v = BitVec.ofNat 32 n := by
  rw [← lane_table n]
  unfold lane
  simp only [h]

/-- The integer arithmetic on an exponent field in range. -/
theorem field_table : ∀ n : Fin 256, 1 ≤ n → n ≤ 252 →
    IntOp.addi 127#32 (Scalar.select (IntOp.ori (IntOp.cmpi .eq (BitVec.ofNat 32 n) 0#32) (IntOp.cmpi .eq (BitVec.ofNat 32 n) 255#32)) 0#32 (IntOp.subi (BitVec.ofNat 32 n) 126#32)) = BitVec.ofNat 32 (n + 1)
    ∧ IntOp.subi 127#32 (Scalar.select (IntOp.ori (IntOp.cmpi .eq (BitVec.ofNat 32 n) 0#32) (IntOp.cmpi .eq (BitVec.ofNat 32 n) 255#32)) 0#32 (IntOp.subi (BitVec.ofNat 32 n) 126#32)) = BitVec.ofNat 32 (253 - n) := by
  decide +kernel

theorem field_zero :
    IntOp.addi 127#32 (Scalar.select (IntOp.ori (IntOp.cmpi .eq (BitVec.ofNat 32 0) 0#32) (IntOp.cmpi .eq (BitVec.ofNat 32 0) 255#32)) 0#32 (IntOp.subi (BitVec.ofNat 32 0) 126#32)) = BitVec.ofNat 32 127
    ∧ IntOp.subi 127#32 (Scalar.select (IntOp.ori (IntOp.cmpi .eq (BitVec.ofNat 32 0) 0#32) (IntOp.cmpi .eq (BitVec.ofNat 32 0) 255#32)) 0#32 (IntOp.subi (BitVec.ofNat 32 0) 126#32)) = BitVec.ofNat 32 127 := by
  decide +kernel

theorem quarter_eq : Ideal.ofBits .f32 0x3B124925#32 = ((9586981 / 4294967296 : ℝ) : EReal) := by
  simp [Ideal.ofBits, Ideal.ieee]
  rw [← EReal.coe_mul]; norm_num

theorem two_eq : Ideal.ofBits .f32 0x40000000#32 = ((2 : ℝ) : EReal) := by
  simp [Ideal.ofBits, Ideal.ieee]
  rw [← EReal.coe_mul]; norm_num

theorem tiny_eq : Ideal.ofBits .f32 0x00800000#32 = (((2 : ℝ) ^ (-126 : ℤ) : ℝ) : EReal) := by
  simp [Ideal.ofBits, Ideal.ieee]
  rw [← EReal.coe_mul]; norm_num

theorem huge_le : Ideal.ofBits .f32 0x7F7FFFFF#32 ≤ (((2 : ℝ) ^ (128 : ℤ) : ℝ) : EReal) := by
  simp [Ideal.ofBits, Ideal.ieee]
  exact_mod_cast (by norm_num : (16777215 : ℝ) * 2 ^ 104 ≤ 2 ^ 128)

/-- The powers of two at most a real `v` are those up to its binary logarithm. -/
theorem word_le_iff (v : ℝ) (E : ℤ) (h0 : -126 ≤ E) (h1 : E ≤ 120) (hl : (2 : ℝ) ^ E ≤ v) (hu : v < (2 : ℝ) ^ (E + 1)) (x : Fin 256) :
    word (BitVec.ofNat 32 x) ≤ (v : EReal) ↔ x ≤ (⟨(E + 127).toNat, by omega⟩ : Fin 256) := by
  rw [Fin.le_def]
  have hv : 0 < v := lt_of_lt_of_le (by positivity) hl
  rcases x with ⟨x, hx⟩
  simp only
  rcases Nat.eq_zero_or_pos x with rfl | hx0
  · rw [word_zero]; simp only [Nat.zero_le, iff_true]; exact_mod_cast hv.le
  · by_cases h255 : x = 255
    · subst h255
      rw [word_top]
      constructor
      · intro h; exact absurd (top_le_iff.mp h) (EReal.coe_ne_top v)
      · intro h; omega
    · rw [word_mid x hx0 (by omega), EReal.coe_le_coe_iff]
      constructor
      · intro h
        have h2 : (2 : ℝ) ^ ((x : ℤ) - 127) < (2 : ℝ) ^ (E + 1) := lt_of_le_of_lt h hu
        have h3 := (zpow_lt_zpow_iff_right₀ (by norm_num : (1 : ℝ) < 2)).mp h2
        omega
      · intro h
        refine le_trans ((zpow_le_zpow_iff_right₀ (by norm_num : (1 : ℝ) < 2)).mpr ?_) hl
        omega

theorem log_two : Ideal.log (Ideal.ofBits .f32 0x40000000#32) = ((Real.log 2 : ℝ) : EReal) := by
  rw [two_eq]
  show (if (2 : ℝ) ≤ 0 then ⊥ else ((Real.log 2 : ℝ) : EReal)) = _
  rw [if_neg (by norm_num)]

/-- The floor of the quotient of logarithms. -/
theorem floor_log (v : ℝ) (hv : 0 < v) :
    Ideal.liftRound Int.floor (Ideal.div (Ideal.log (v : EReal)) (Ideal.log (Ideal.ofBits .f32 0x40000000#32)))
      = (((⌊Real.log v / Real.log 2⌋ : ℤ) : ℝ) : EReal) := by
  have hl2 : Real.log 2 ≠ 0 := (Real.log_pos (by norm_num)).ne'
  have e1 : Ideal.log (v : EReal) = ((Real.log v : ℝ) : EReal) := by
    show (if v ≤ 0 then ⊥ else ((Real.log v : ℝ) : EReal)) = _
    rw [if_neg (not_le.mpr hv)]
  rw [log_two, e1]
  unfold Ideal.div
  rw [if_neg (by exact_mod_cast hl2), ← EReal.coe_inv, ← EReal.coe_mul, ← div_eq_mul_inv]
  rfl

theorem exp2_int (E : ℤ) : Ideal.exp2 (((E : ℤ) : ℝ) : EReal) = (((2 : ℝ) ^ E : ℝ) : EReal) := by
  show ((Real.rpow 2 (E : ℝ) : ℝ) : EReal) = _
  congr 1
  exact Real.rpow_intCast 2 E

/-- The logarithm's floor brackets the number between two powers of two. -/
theorem floor_bracket (v : ℝ) (hv : 0 < v) :
    (2 : ℝ) ^ ⌊Real.log v / Real.log 2⌋ ≤ v ∧ v < (2 : ℝ) ^ (⌊Real.log v / Real.log 2⌋ + 1) := by
  have hl2 : 0 < Real.log 2 := Real.log_pos (by norm_num)
  constructor
  · rw [← Real.log_le_log_iff (by positivity) hv, Real.log_zpow]
    exact (le_div_iff₀ hl2).mp (Int.floor_le _)
  · rw [← Real.log_lt_log_iff hv (by positivity), Real.log_zpow]
    refine (div_lt_iff₀ hl2).mp ?_
    push_cast
    exact Int.lt_floor_add_one _

/-- On a row the condition admits the two exponents are one: both scales are `2 ^ E` and both inverses `2 ^ (-E)`. -/
theorem scales (a : Ideal .f32) (h : Ok a) : kscale a = rscale a ∧ kinv a = rinv a := by
  rcases h with rfl | ⟨hlo, hhi⟩
  · have hq : quot 0 = 0 := zero_mul _
    have hl : lane 0 = BitVec.ofNat 32 ((0 : Fin 256) : ℕ) := by
      refine lane_eq 0 0 fun x => ?_
      rcases x with ⟨x, hx⟩
      rw [Fin.le_def]
      simp only [Fin.val_zero, Nat.le_zero]
      rcases Nat.eq_zero_or_pos x with rfl | hx0
      · simp [word_zero]
      · by_cases h255 : x = 255
        · subst h255; rw [word_top]; simp
        · rw [word_mid x hx0 (by omega)]
          constructor
          · intro h
            have h' : ((2 : ℝ) ^ ((x : ℤ) - 127)) ≤ 0 := by exact_mod_cast h
            exact absurd h' (not_le.mpr (by positivity))
          · intro h; omega
    have e0 : rexp 0 = (((0 : ℤ) : ℝ) : EReal) := by unfold rexp; rw [if_pos rfl]; simp
    have e1 : (0 : EReal) - (((0 : ℤ) : ℝ) : EReal) = (((0 : ℤ) : ℝ) : EReal) := by simp
    have w1 : word (BitVec.ofNat 32 127) = (((2 : ℝ) ^ (0 : ℤ) : ℝ) : EReal) := word_mid 127 (by norm_num) (by norm_num)
    unfold kscale kinv rscale rinv kexp
    rw [hq, hl, e0, e1, exp2_int]
    exact ⟨(congrArg word field_zero.1).trans w1, (congrArg word field_zero.2).trans w1⟩
  · have hpos : (0 : EReal) < quot a := by
      refine lt_of_lt_of_le ?_ hlo
      rw [tiny_eq]; exact_mod_cast (by positivity : (0 : ℝ) < 2 ^ (-126 : ℤ))
    have hq : quot a = a * ((9586981 / 4294967296 : ℝ) : EReal) := by unfold quot; rw [quarter_eq]
    have hc : (0 : EReal) < ((9586981 / 4294967296 : ℝ) : EReal) := by exact_mod_cast (by norm_num : (0 : ℝ) < 9586981 / 4294967296)
    have ha0 : a ≠ 0 := by rintro rfl; rw [hq, zero_mul] at hpos; exact lt_irrefl _ hpos
    have hat : a ≠ ⊤ := by
      rintro rfl
      have := top_le_iff.mp (le_trans hhi huge_le)
      exact EReal.coe_ne_top _ this
    have hab : a ≠ ⊥ := by
      rintro rfl
      rw [hq, EReal.bot_mul_of_pos hc] at hpos
      exact not_lt_bot hpos
    lift a to ℝ using ⟨hat, hab⟩
    have hq' : quot (a : EReal) = ((a * (9586981 / 4294967296) : ℝ) : EReal) := by rw [hq, ← EReal.coe_mul]
    generalize hv : a * (9586981 / 4294967296) = v at hq'
    rw [hq'] at hlo hpos
    have hv0 : 0 < v := by exact_mod_cast hpos
    rw [tiny_eq] at hlo
    have hlo' : (2 : ℝ) ^ (-126 : ℤ) ≤ v := by exact_mod_cast hlo
    have hhi' : a ≤ (2 : ℝ) ^ (128 : ℤ) := EReal.coe_le_coe_iff.mp (le_trans hhi huge_le)
    have hv120 : v < (2 : ℝ) ^ (120 : ℤ) := by rw [← hv]; norm_num at hhi' ⊢; linarith
    obtain ⟨hl, hu⟩ := floor_bracket v hv0
    have hfl := floor_log v hv0
    generalize ⌊Real.log v / Real.log 2⌋ = E at hl hu hfl
    have hE0 : -126 ≤ E := by
      have := (zpow_lt_zpow_iff_right₀ (by norm_num : (1 : ℝ) < 2)).mp (lt_of_le_of_lt hlo' hu)
      omega
    have hE1 : E < 120 := (zpow_lt_zpow_iff_right₀ (by norm_num : (1 : ℝ) < 2)).mp (lt_of_le_of_lt hl hv120)
    have hlane := lane_eq (v : EReal) ⟨(E + 127).toNat, by omega⟩ (word_le_iff v E hE0 (by omega) hl hu)
    have e0 : rexp (a : EReal) = (((E + 1 : ℤ) : ℝ) : EReal) := by
      unfold rexp
      rw [if_neg ha0, hq', hfl]
      push_cast
      rfl
    have e1 : (0 : EReal) - (((E + 1 : ℤ) : ℝ) : EReal) = (((-(E + 1) : ℤ) : ℝ) : EReal) := by
      rw [zero_sub, ← EReal.coe_neg]; push_cast; rfl
    obtain ⟨f1, f2⟩ := field_table ⟨(E + 127).toNat, by omega⟩ (by rw [Fin.le_def]; show 1 ≤ (E + 127).toNat; omega)
      (by rw [Fin.le_def]; show (E + 127).toNat ≤ 252; omega)
    unfold kscale kinv rscale rinv kexp
    rw [hq', hlane, e0, e1, exp2_int, exp2_int]
    constructor
    · refine (congrArg word f1).trans ((word_mid _ (by omega) ?_).trans ?_)
      · show (E + 127).toNat + 1 ≤ 254; omega
      · congr 2; push_cast; omega
    · refine (congrArg word f2).trans ((word_mid _ ?_ ?_).trans ?_)
      · show 1 ≤ 253 - (E + 127).toNat; omega
      · show 253 - (E + 127).toNat ≤ 254; omega
      · congr 2; show ((253 - (E + 127).toNat : ℕ) : ℤ) - 127 = _; omega

end Cert.Quant

end
-- ==== Proof.Rows.lean ====
/- Reductions along a row and the reshape of a column, read at an index: for any number of rows. -/
module

public import proofs.«01_k».proof.Proof.Quant

@[expose] public section

set_option maxRecDepth 16384

noncomputable section

namespace Cert.Rows

open Idealize.ShloMosaic

variable {n m : ℕ} {α : Type}

/-- A vector as a column. -/
theorem col (v : (⟨1, ![n]⟩ : Shape).Idx → α) (h : (⟨1, ![n]⟩ : Shape).ShapeCasts ⟨2, ![n, 1]⟩) (j : (⟨2, ![n, 1]⟩ : Shape).Idx) :
    shapeCast ⟨2, ![n, 1]⟩ v h j = v (ix1 (j 0)) := by
  refine congrArg v (Shape.reshapeEquiv_eq_of_rowMajor h ?_)
  have h1 : (j 1).val = 0 := Nat.lt_one_iff.mp (j 1).isLt
  rw [Shape.rowMajor_val_one, Shape.rowMajor_val_two, h1]
  simp

/-- A row's maximum. -/
theorem rowMax (v : FVec Ideal ⟨2, ![n, m]⟩ .f32) (h : (⟨2, ![n, m]⟩ : Shape).Reduces [1] ⟨1, ![n]⟩) (hφ : FKind.Formats .f32)
    (hacc : 0xFF800000#32 = FKind.maximumf.neutral .f32 hφ) (i : Fin n) :
    multiReduction .maximumf [1] ⟨1, ![n]⟩ (absf v) 0xFF800000#32 h hφ hacc (ix1 i) = Quant.amax fun k => v (ix2 i k) := by
  unfold Quant.amax
  pointwise []

/-- The same of a host reduction. -/
theorem hostRowMax (v : FVec Ideal ⟨2, ![n, m]⟩ .f32) (c : FVec Ideal ⟨0, ![]⟩ .f32) (h : (⟨2, ![n, m]⟩ : Shape).ReducesTo [1] ⟨1, ![n]⟩)
    (hu : 0 < (⟨0, ![]⟩ : Shape).numel) (hc : ∀ i, c i = Ideal.ofBits .f32 0xFF800000#32) (j : (⟨1, ![n]⟩ : Shape).Idx) :
    Host.reduce FloatOps.maximumf (Host.absf v) c h hu j = Quant.amax fun k => v (ix2 (j 0) k) := by
  unfold Quant.amax
  rw [← hc (Shape.Idx.first hu)]
  pointwise []

end Cert.Rows

namespace Cert.Quant

open Idealize.ShloMosaic

/-- The kernel's codes of the weights. -/
def kcodes (w : FVec Ideal ⟨2, ![5120, 17920]⟩ .f32) (i : (⟨2, ![5120, 17920]⟩ : Shape).Idx) : Ideal .f32 :=
  code (w i) (kinv (amax fun k : Fin 17920 => w (ix2 (i 0) k)))

/-- The kernel's scales of the rows. -/
def kscales (w : FVec Ideal ⟨2, ![5120, 17920]⟩ .f32) (i : (⟨2, ![5120, 1]⟩ : Shape).Idx) : Ideal .f32 :=
  kscale (amax fun k : Fin 17920 => w (ix2 (i 0) k))

/-- The kernel's weights out of codes and scales. -/
def kweights (w : FVec Ideal ⟨2, ![5120, 17920]⟩ .f32) (i : (⟨2, ![5120, 17920]⟩ : Shape).Idx) : Ideal .f32 :=
  code (w i) (kinv (amax fun k : Fin 17920 => w (ix2 (i 0) k))) * kscale (amax fun k : Fin 17920 => w (ix2 (i 0) k))

/-- The reference's codes of the weights. -/
def rcodes (w : FVec Ideal ⟨2, ![5120, 17920]⟩ .f32) (i : (⟨2, ![5120, 17920]⟩ : Shape).Idx) : Ideal .f32 :=
  code (w i) (rinv (amax fun k : Fin 17920 => w (ix2 (i 0) k)))

/-- The reference's scales of the rows. -/
def rscales (w : FVec Ideal ⟨2, ![5120, 17920]⟩ .f32) (i : (⟨2, ![5120, 1]⟩ : Shape).Idx) : Ideal .f32 :=
  rscale (amax fun k : Fin 17920 => w (ix2 (i 0) k))

/-- The reference's weights out of codes and scales. -/
def rweights (w : FVec Ideal ⟨2, ![5120, 17920]⟩ .f32) (i : (⟨2, ![5120, 17920]⟩ : Shape).Idx) : Ideal .f32 :=
  code (w i) (rinv (amax fun k : Fin 17920 => w (ix2 (i 0) k))) * rscale (amax fun k : Fin 17920 => w (ix2 (i 0) k))

/-- Where every row is admitted the kernel's three results are the reference's. -/
theorem quantised (w : FVec Ideal ⟨2, ![5120, 17920]⟩ .f32) (h : ∀ i : Fin 5120, Ok (amax fun k : Fin 17920 => w (ix2 i k))) :
    kcodes w = rcodes w ∧ kscales w = rscales w ∧ kweights w = rweights w := by
  refine ⟨funext fun i => ?_, funext fun i => ?_, funext fun i => ?_⟩
  · unfold kcodes rcodes; rw [(scales _ (h (i 0))).2]
  · unfold kscales rscales; rw [(scales _ (h (i 0))).1]
  · unfold kweights rweights; rw [(scales _ (h (i 0))).1, (scales _ (h (i 0))).2]

end Cert.Quant

end
-- ==== Proof.DwValue.lean ====
/- What the first call leaves in its results: the weight gradient as a sum over the tokens. -/
module

public import proofs.«01_k».proof.Proof.Calls.Dw
public import proofs.«01_k».proof.Proof.Products
public import proofs.«01_k».proof.Proof.Rows

@[expose] public section

set_option maxRecDepth 16384

noncomputable section

namespace Cert.KernelIdeal.DwVal

open Cert.KernelIdeal Cert.KernelIdeal.Gen Cert.KernelIdeal.Calls Idealize.ShloMosaic Idealize.ShloMosaic.TcCoe Idealize.SL.Sem
open Idealize.ShloMosaic.Pipeline (Dat)
open Cert.Products
open Cert.Quant (kcodes kscales kweights)

-- the TensorCore's buffer contents when the call is entered
variable (V : (c : Dev nD) → (b : Ref sig .tc) → Buf (Elt Ideal) ((c : Thread nD τ).loc b))

/-- The product's block indices at a grid point: 6 steps over the tokens for each of the 4 by 7 blocks of the result. -/
theorem idx : ∀ t : Fin cfg0.N, win0_0.index t = ![t.val % 6, t.val / 42] ∧ win0_1.index t = ![t.val % 6, t.val / 6 % 7]
    ∧ win0_3.index t = ![t.val / 42, t.val / 6 % 7] :=
  (by decide +kernel : ∀ t : Fin grid0.N, _)

/-- The accumulator starts at zero. -/
theorem hzero (j) : k0_pay4 (F := Ideal) j = 0 := by pointwise [k0_pay4]

/-- One step adds the product over its 1024 tokens. -/
theorem hpay (acc g x j) : k0_pay3 (F := Ideal) acc g x j
    = acc j + ∑ k : Fin 1024, g (ix2 k (j 0)) * x (ix2 k (j 1)) := by pointwise [k0_pay3]

/-- What the result's block holds at its last step: the sum of the steps' products. -/
theorem acc_last (c : Dev nD) (t : Fin cfg0.N) (ht : t.val % 6 = 6 - 1) (j) :
    (outsAt0 V c t.val t.isLt).1 j = prodDw (V c main_v1) (V c main_v0) (((cfg0.win 3).blk t).view.emb j) := by
  rw [Pipeline.eq_sum_fin_of_reset_step_apply_of_flush (fun n h => (outsAt0 V c n h).1) 6 (fun _ => 0) _
    (fun t h j => by rw [outsAt0_A V c t h]; frame_out; rw [hpay, hzero])
    (fun t h j => by rw [outsAt0_B V c t h]; frame_out; rw [hpay])
    t ht _, zero_add]
  unfold prodDw
  refine Fin.sum_mul_add_congr fun s k hl => ?_
  blk_point [iblk0, idx t, idx ⟨_, Pipeline.run_point_lt_of_flush t ht s⟩]

/-- The gradient array after the run. -/
theorem final_dw (c : Dev nD) : (dat0 V c).arrAt 3 cfg0.N = prodDw (V c main_v1) (V c main_v0) := by
  refine (dat0 V c).arrAt_eq_of_covers 3 _ (by decide +kernel) fun t hf y => ?_
  have ht : t.val % 6 = 5 := (flush0_3 t).mp hf
  blk_simp
  rw [← acc_last V c t ht, after0_3]

/-! The quantiser's blocks: 32 rows of the weights, all of a row in one block. -/

/-- The kernel's exponent of a row. -/
theorem pay5 (w : FVec Ideal S32x17920 .f32) (j : S32x1.Idx) : k0_pay5 (F := Ideal) w j = Quant.kexp (Quant.quot (Quant.amax fun k => w (ix2 (j 0) k))) := by
  pointwise [k0_pay5, Quant.kexp, Quant.quot, Quant.amax, Quant.lane, Quant.word]

/-- The kernel's scale of a row. -/
theorem pay6 (w : FVec Ideal S32x17920 .f32) (j : S32x1.Idx) : k0_pay6 (F := Ideal) w j = Quant.kscale (Quant.amax fun k => w (ix2 (j 0) k)) := by
  pointwise [k0_pay6, pay5, Quant.kscale, Quant.word]

/-- The kernel's code of a weight. -/
theorem pay1 (w : FVec Ideal S32x17920 .f32) (j : S32x17920.Idx) :
    k0_pay1 (F := Ideal) w (k0_pay7 w) j = Quant.code (w j) (Quant.kinv (Quant.amax fun k => w (ix2 (j 0) k))) := by
  pointwise [k0_pay1, k0_pay7, pay5, Quant.kinv, Quant.word, Quant.code]

/-- The kernel's weight put back together out of code and scale. -/
theorem pay2 (w : FVec Ideal S32x17920 .f32) (j : S32x17920.Idx) :
    k0_pay2 (F := Ideal) w (k0_pay6 w) (k0_pay7 w) j
      = Quant.code (w j) (Quant.kinv (Quant.amax fun k => w (ix2 (j 0) k))) * Quant.kscale (Quant.amax fun k => w (ix2 (j 0) k)) := by
  pointwise [k0_pay2, pay6, pay1]

/-- The quantiser's block indices at a grid point: the 160 blocks in order, the last one held. -/
theorem idxq : ∀ t : Fin cfg0.N, win0_2.index t = ![min t.val 159, 0] ∧ win0_4.index t = ![min t.val 159, 0]
    ∧ win0_5.index t = ![min t.val 159, 0] ∧ win0_6.index t = ![min t.val 159, 0] :=
  (by decide +kernel : ∀ t : Fin grid0.N, _)

/-- The codes after the run. -/
theorem final_codes (c : Dev nD) : (dat0 V c).arrAt 4 cfg0.N = kcodes (V c main_arg1) := by
  refine (dat0 V c).arrAt_eq_of_covers 4 _ (by decide +kernel) fun t hf y => ?_
  have h1 : iblk0 V c 2 t y = V c main_arg1 (((cfg0.win 4).blk t).view.emb y) := by blk_point [iblk0, idxq t]
  have h2 : ∀ k : Fin 17920, iblk0 V c 2 t (ix2 (y 0) k) = V c main_arg1 (ix2 (((cfg0.win 4).blk t).view.emb y 0) k) := fun k => by
    blk_point [iblk0, idxq t]
  have e : (outsAt0 V c t.val t.isLt).2.1 y = kcodes (V c main_arg1) (((cfg0.win 4).blk t).view.emb y) := by
    unfold kcodes
    by_cases h : t.val % 6 = 0
    · rw [outsAt0_A V c t h]; frame_out; rw [pay1]; simp only [h1, h2]
    · rw [outsAt0_B V c t h]; frame_out; rw [pay1]; simp only [h1, h2]
  blk_simp
  rw [after0_4]
  exact e

/-- The scales after the run. -/
theorem final_scales (c : Dev nD) : (dat0 V c).arrAt 5 cfg0.N = kscales (V c main_arg1) := by
  refine (dat0 V c).arrAt_eq_of_covers 5 _ (by decide +kernel) fun t hf y => ?_
  have h2 : ∀ k : Fin 17920, iblk0 V c 2 t (ix2 (y 0) k) = V c main_arg1 (ix2 (((cfg0.win 5).blk t).view.emb y 0) k) := fun k => by
    blk_point [iblk0, idxq t]
  have e : (outsAt0 V c t.val t.isLt).2.2.1 y = kscales (V c main_arg1) (((cfg0.win 5).blk t).view.emb y) := by
    unfold kscales
    by_cases h : t.val % 6 = 0
    · rw [outsAt0_A V c t h]; frame_out; rw [pay6]; simp only [h2]
    · rw [outsAt0_B V c t h]; frame_out; rw [pay6]; simp only [h2]
  blk_simp
  rw [after0_5]
  exact e

/-- The weights after the run. -/
theorem final_weights (c : Dev nD) : (dat0 V c).arrAt 6 cfg0.N = kweights (V c main_arg1) := by
  refine (dat0 V c).arrAt_eq_of_covers 6 _ (by decide +kernel) fun t hf y => ?_
  have h1 : iblk0 V c 2 t y = V c main_arg1 (((cfg0.win 6).blk t).view.emb y) := by blk_point [iblk0, idxq t]
  have h2 : ∀ k : Fin 17920, iblk0 V c 2 t (ix2 (y 0) k) = V c main_arg1 (ix2 (((cfg0.win 6).blk t).view.emb y 0) k) := fun k => by
    blk_point [iblk0, idxq t]
  have e : (outsAt0 V c t.val t.isLt).2.2.2 y = kweights (V c main_arg1) (((cfg0.win 6).blk t).view.emb y) := by
    unfold kweights
    by_cases h : t.val % 6 = 0
    · rw [outsAt0_A V c t h]; frame_out; rw [pay2]; simp only [h1, h2]
    · rw [outsAt0_B V c t h]; frame_out; rw [pay2]; simp only [h1, h2]
  blk_simp
  rw [after0_6]
  exact e

end Cert.KernelIdeal.DwVal

end
-- ==== Proof.Single.DwValue.lean ====
/- The first call on its own: what it leaves in its results. -/
module

public import proofs.«01_k».proof.Proof.Gen.DwIdeal.Frame
public import proofs.«01_k».proof.Proof.DwValue

@[expose] public section

set_option maxRecDepth 16384

noncomputable section

namespace Cert.DwIdeal.Val

open Cert.DwIdeal Cert.DwIdeal.Gen Idealize.ShloMosaic Idealize.ShloMosaic.TcCoe Idealize.SL.Sem
open Idealize.ShloMosaic.Pipeline (Dat)
open Cert.Products
open Cert.Quant (kcodes kscales kweights)

variable (m : (ℓ : Loc nD τ sig) → Buf (Elt Ideal) ℓ)

/-- The product's block indices at a grid point: 6 steps over the tokens for each of the 4 by 7 blocks of the result. -/
theorem idx : ∀ t : Fin cfg0.N, win0_0.index t = ![t.val % 6, t.val / 42] ∧ win0_1.index t = ![t.val % 6, t.val / 6 % 7]
    ∧ win0_3.index t = ![t.val / 42, t.val / 6 % 7] :=
  (by decide +kernel : ∀ t : Fin grid0.N, _)

/-- The accumulator starts at zero. -/
theorem hzero (j) : k0_pay4 (F := Ideal) j = 0 := Cert.KernelIdeal.DwVal.hzero j

/-- One step adds the product over its 1024 tokens. -/
theorem hpay (acc g x j) : k0_pay3 (F := Ideal) acc g x j
    = acc j + ∑ k : Fin 1024, g (ix2 k (j 0)) * x (ix2 k (j 1)) := Cert.KernelIdeal.DwVal.hpay acc g x j

/-- What the result's block holds at its last step: the sum of the steps' products. -/
theorem acc_last (c : Dev nD) (t : Fin cfg0.N) (ht : t.val % 6 = 6 - 1) (j) :
    (outsAt0 m c t.val t.isLt).1 j = prodDw (V m c main_v0) (V m c main_v1) (((cfg0.win 3).blk t).view.emb j) := by
  rw [Pipeline.eq_sum_fin_of_reset_step_apply_of_flush (fun n h => (outsAt0 m c n h).1) 6 (fun _ => 0) _
    (fun t h j => by rw [outsAt0_A m c t h]; frame_out; rw [hpay, hzero])
    (fun t h j => by rw [outsAt0_B m c t h]; frame_out; rw [hpay])
    t ht _, zero_add]
  unfold prodDw
  refine Fin.sum_mul_add_congr fun s k hl => ?_
  blk_point [iblk, idx t, idx ⟨_, Pipeline.run_point_lt_of_flush t ht s⟩]

/-- The gradient array after the run. -/
theorem final_dw (c : Dev nD) : (dats m 0 c).arrAt 3 (cfgs 0).N = prodDw (V m c main_v0) (V m c main_v1) := by
  refine (dats m 0 c).arrAt_eq_of_covers 3 _ (by decide +kernel) fun t hf y => ?_
  have ht : t.val % 6 = 5 := (flush0_3 t).mp hf
  blk_simp
  rw [← acc_last m c t ht, after0_3]

/-! The quantiser's blocks: 32 rows of the weights, all of a row in one block. -/

/-- The kernel's exponent of a row. -/
theorem pay5 (w : FVec Ideal S32x17920 .f32) (j : S32x1.Idx) : k0_pay5 (F := Ideal) w j = Quant.kexp (Quant.quot (Quant.amax fun k => w (ix2 (j 0) k))) :=
  Cert.KernelIdeal.DwVal.pay5 w j

/-- The kernel's scale of a row. -/
theorem pay6 (w : FVec Ideal S32x17920 .f32) (j : S32x1.Idx) : k0_pay6 (F := Ideal) w j = Quant.kscale (Quant.amax fun k => w (ix2 (j 0) k)) :=
  Cert.KernelIdeal.DwVal.pay6 w j

/-- The kernel's code of a weight. -/
theorem pay1 (w : FVec Ideal S32x17920 .f32) (j : S32x17920.Idx) :
    k0_pay1 (F := Ideal) w (k0_pay7 w) j = Quant.code (w j) (Quant.kinv (Quant.amax fun k => w (ix2 (j 0) k))) :=
  Cert.KernelIdeal.DwVal.pay1 w j

/-- The kernel's weight put back together out of code and scale. -/
theorem pay2 (w : FVec Ideal S32x17920 .f32) (j : S32x17920.Idx) :
    k0_pay2 (F := Ideal) w (k0_pay6 w) (k0_pay7 w) j
      = Quant.code (w j) (Quant.kinv (Quant.amax fun k => w (ix2 (j 0) k))) * Quant.kscale (Quant.amax fun k => w (ix2 (j 0) k)) :=
  Cert.KernelIdeal.DwVal.pay2 w j

/-- The quantiser's block indices at a grid point: the 160 blocks in order, the last one held. -/
theorem idxq : ∀ t : Fin cfg0.N, win0_2.index t = ![min t.val 159, 0] ∧ win0_4.index t = ![min t.val 159, 0]
    ∧ win0_5.index t = ![min t.val 159, 0] ∧ win0_6.index t = ![min t.val 159, 0] :=
  (by decide +kernel : ∀ t : Fin grid0.N, _)

/-- The codes after the run. -/
theorem final_codes (c : Dev nD) : (dats m 0 c).arrAt 4 (cfgs 0).N = kcodes (V m c main_arg1) := by
  refine (dats m 0 c).arrAt_eq_of_covers 4 _ (by decide +kernel) fun t hf y => ?_
  have h1 : iblk m c 2 t y = V m c main_arg1 (((cfg0.win 4).blk t).view.emb y) := by blk_point [iblk, idxq t]
  have h2 : ∀ k : Fin 17920, iblk m c 2 t (ix2 (y 0) k) = V m c main_arg1 (ix2 (((cfg0.win 4).blk t).view.emb y 0) k) := fun k => by
    blk_point [iblk, idxq t]
  have e : (outsAt0 m c t.val t.isLt).2.1 y = kcodes (V m c main_arg1) (((cfg0.win 4).blk t).view.emb y) := by
    unfold kcodes
    by_cases h : t.val % 6 = 0
    · rw [outsAt0_A m c t h]; frame_out; rw [pay1]; simp only [h1, h2]
    · rw [outsAt0_B m c t h]; frame_out; rw [pay1]; simp only [h1, h2]
  blk_simp
  rw [after0_4]
  exact e

/-- The scales after the run. -/
theorem final_scales (c : Dev nD) : (dats m 0 c).arrAt 5 (cfgs 0).N = kscales (V m c main_arg1) := by
  refine (dats m 0 c).arrAt_eq_of_covers 5 _ (by decide +kernel) fun t hf y => ?_
  have h2 : ∀ k : Fin 17920, iblk m c 2 t (ix2 (y 0) k) = V m c main_arg1 (ix2 (((cfg0.win 5).blk t).view.emb y 0) k) := fun k => by
    blk_point [iblk, idxq t]
  have e : (outsAt0 m c t.val t.isLt).2.2.1 y = kscales (V m c main_arg1) (((cfg0.win 5).blk t).view.emb y) := by
    unfold kscales
    by_cases h : t.val % 6 = 0
    · rw [outsAt0_A m c t h]; frame_out; rw [pay6]; simp only [h2]
    · rw [outsAt0_B m c t h]; frame_out; rw [pay6]; simp only [h2]
  blk_simp
  rw [after0_5]
  exact e

/-- The weights after the run. -/
theorem final_weights (c : Dev nD) : (dats m 0 c).arrAt 6 (cfgs 0).N = kweights (V m c main_arg1) := by
  refine (dats m 0 c).arrAt_eq_of_covers 6 _ (by decide +kernel) fun t hf y => ?_
  have h1 : iblk m c 2 t y = V m c main_arg1 (((cfg0.win 6).blk t).view.emb y) := by blk_point [iblk, idxq t]
  have h2 : ∀ k : Fin 17920, iblk m c 2 t (ix2 (y 0) k) = V m c main_arg1 (ix2 (((cfg0.win 6).blk t).view.emb y 0) k) := fun k => by
    blk_point [iblk, idxq t]
  have e : (outsAt0 m c t.val t.isLt).2.2.2 y = kweights (V m c main_arg1) (((cfg0.win 6).blk t).view.emb y) := by
    unfold kweights
    by_cases h : t.val % 6 = 0
    · rw [outsAt0_A m c t h]; frame_out; rw [pay2]; simp only [h1, h2]
    · rw [outsAt0_B m c t h]; frame_out; rw [pay2]; simp only [h1, h2]
  blk_simp
  rw [after0_6]
  exact e

end Cert.DwIdeal.Val

end
-- ==== Proof.Single.YValue.lean ====
/- The second call on its own: what it leaves in its result, for any weight. -/
module

public import proofs.«01_k».proof.Proof.Gen.YIdeal.Frame
public import proofs.«01_k».proof.Proof.Products

@[expose] public section

set_option maxRecDepth 16384

noncomputable section

namespace Cert.YIdeal.Val

open Cert.YIdeal Cert.YIdeal.Gen Idealize.ShloMosaic Idealize.ShloMosaic.TcCoe Idealize.SL.Sem
open Idealize.ShloMosaic.Pipeline (Dat)
open Cert.Products

variable (m : (ℓ : Loc nD τ sig) → Buf (Elt Ideal) ℓ)

/-- The windows' block indices at a grid point: 7 steps over the inputs for each of the 6 by 4 blocks of the result. -/
theorem idx : ∀ t : Fin cfg0.N, win0_0.index t = ![t.val / 28, t.val % 7] ∧ win0_1.index t = ![t.val / 7 % 4, t.val % 7]
    ∧ win0_2.index t = ![t.val / 28, t.val / 7 % 4] :=
  (by decide +kernel : ∀ t : Fin grid0.N, _)

/-- The accumulator starts at zero. -/
theorem hzero (j) : k0_pay1 (F := Ideal) j = 0 := by pointwise [k0_pay1]

/-- One step adds the product over its 2560 inputs. -/
theorem hpay (acc x w j) : k0_pay2 (F := Ideal) acc x w j
    = acc j + ∑ k : Fin 2560, x (ix2 (j 0) k) * w (ix2 (j 1) k) := by pointwise [k0_pay2]

/-- The accumulator read back is what the step before left in it. -/
theorem scratch_read (v : Vec Ideal S1024x1280 .f32) :
    (scM0_0 : Memref sig .tc .vmem S1024x1280 .f32).view.read (Elt Ideal) ((Memref.isWhole_whole _ : scM0_0.IsWhole).unread v) = v :=
  (Memref.isWhole_whole _ : scM0_0.IsWhole).read_unread v

/-- What the accumulator holds at the last step of a block: the sum of the steps' products. -/
theorem acc_last (c : Dev nD) (t : Fin cfg0.N) (ht : t.val % 7 = 7 - 1) (j) :
    (outsAt0 m c t.val t.isLt).2 j = prodY (V m c main_v0) (V m c main_arg1) (((cfg0.win 2).blk t).view.emb j) := by
  rw [Pipeline.eq_sum_fin_of_reset_step_apply_of_flush (fun n h => (outsAt0 m c n h).2) 7 (fun _ => 0) _
    (fun t h j => by rw [outsAt0_A m c t h (by omega)]; frame_out; rw [hpay, hzero])
    (fun t h j => by
      by_cases h6 : t.val % 7 = 6
      · rw [outsAt0_C m c t h h6]; frame_out; rw [hpay]; exact congrArg (· + _) (congrFun (scratch_read _) j)
      · rw [outsAt0_B m c t h h6]; frame_out; rw [hpay]; exact congrArg (· + _) (congrFun (scratch_read _) j))
    t ht _, zero_add]
  unfold prodY
  refine Fin.sum_mul_add_congr fun s k hl => ?_
  blk_point [iblk, idx t, idx ⟨_, Pipeline.run_point_lt_of_flush t ht s⟩]

/-- The result array after the run. -/
theorem final (c : Dev nD) : (dats m 0 c).arrAt 2 (cfgs 0).N = prodY (V m c main_v0) (V m c main_arg1) := by
  refine (dats m 0 c).arrAt_eq_of_covers 2 _ (by decide +kernel) fun t hf y => ?_
  have ht : t.val % 7 = 6 := (flush0_2 t).mp hf
  blk_simp
  rw [← acc_last m c t ht, after0_2, outsAt0_C m c t (by omega) ht]; frame_out
  rfl

end Cert.YIdeal.Val

end
-- ==== Proof.Single.DxValue.lean ====
/- The third call on its own: what it leaves in its result, for any weight. -/
module

public import proofs.«01_k».proof.Proof.Gen.DxIdeal.Frame
public import proofs.«01_k».proof.Proof.Products

@[expose] public section

set_option maxRecDepth 16384

noncomputable section

namespace Cert.DxIdeal.Val

open Cert.DxIdeal Cert.DxIdeal.Gen Idealize.ShloMosaic Idealize.ShloMosaic.TcCoe Idealize.SL.Sem
open Idealize.ShloMosaic.Pipeline (Dat)
open Cert.Products

variable (m : (ℓ : Loc nD τ sig) → Buf (Elt Ideal) ℓ)

/-- The windows' block indices at a grid point: 35 column blocks for each of the 3 row blocks. -/
theorem idx : ∀ t : Fin cfg0.N, win0_0.index t = ![t.val / 35, 0] ∧ win0_1.index t = ![0, t.val % 35]
    ∧ win0_2.index t = ![t.val / 35, t.val % 35] :=
  (by decide +kernel : ∀ t : Fin grid0.N, _)

/-- What a point stores, read at an index of the block, is the product at the place of the array it goes to. -/
theorem point (c : Dev nD) (t : Fin cfg0.N) (y) : k0_pay1 (F := Ideal) (iblk m c 0 t) (iblk m c 1 t) y
    = prodDx (V m c main_v0) (V m c main_arg1) (((cfg0.win 2).blk t).view.emb y) := by
  pointwise [k0_pay1, prodDx]
  blk_point [iblk, idx t]

/-- The result array after the run. -/
theorem final (c : Dev nD) : (dats m 0 c).arrAt 2 (cfgs 0).N = prodDx (V m c main_v0) (V m c main_arg1) := by
  refine (dats m 0 c).arrAt_eq_of_covers 2 _ (by decide +kernel) fun t _ y => ?_
  blk_simp
  rw [after0_2]; frame_out
  exact point m c t y

end Cert.DxIdeal.Val

end
-- ==== Proof.RefRows.lean ====
/- The reference quantiser's results, and the condition on the weights, read at an index. -/
module

public import proofs.«01_k».proof.Proof.Gen.ReferenceIdeal.Frame
public import proofs.«01_k».proof.Proof.Gen.Pre_normal_rows
public import proofs.«01_k».proof.Proof.Rows

@[expose] public section

set_option maxRecDepth 16384

noncomputable section

namespace Cert.ReferenceIdeal.Rows

open Cert.ReferenceIdeal Cert.ReferenceIdeal.Gen Idealize.ShloMosaic Cert.Quant

variable (w : FVec Ideal S5120x17920 .f32)

/-- The column of the rows' largest magnitudes. -/
def col : FVec Ideal S5120x1 .f32 :=
  shapeCast S5120x1 (multiReduction .maximumf [1] S5120 (absf w) 0xFF800000#32 reduces_S5120x17920_S5120 (.inl rfl) rfl) shapeCasts_S5120_S5120x1

theorem rowMax (i : Fin 5120) :
    multiReduction .maximumf [1] S5120 (absf w) 0xFF800000#32 reduces_S5120x17920_S5120 (.inl rfl) rfl (ix1 i) = amax fun k => w (ix2 i k) :=
  Cert.Rows.rowMax w _ _ _ i

theorem col_cast (j : S5120x1.Idx) : col w j
    = multiReduction .maximumf [1] S5120 (absf w) 0xFF800000#32 reduces_S5120x17920_S5120 (.inl rfl) rfl (ix1 (j 0)) := Cert.Rows.col _ _ j

theorem col_apply (j : S5120x1.Idx) : col w j = amax fun k => w (ix2 (j 0) k) := (col_cast w j).trans (rowMax w (j 0))

/-- The exponent out of the column of largest magnitudes, as printed. -/
def expo (A : FVec Ideal S5120x1 .f32) : FVec Ideal S5120x1 .f32 :=
  select (cmpf .oeq A (broadcast S5120x1 (Scalar.ofBits .f32 0x00000000#32))) (broadcast S5120x1 (Scalar.ofBits .f32 0x00000000#32))
    (addf (floor (divf (log (mulf A (broadcast S5120x1 (Scalar.ofBits .f32 0x3B124925#32)))) (log (broadcast S5120x1 (Scalar.ofBits .f32 0x40000000#32)))))
      (broadcast S5120x1 (Scalar.ofBits .f32 0x3F800000#32)))

theorem expo_apply (A : FVec Ideal S5120x1 .f32) (j) : expo A j = rexp (A j) := by
  unfold expo
  pointwise [rexp, quot]

theorem pay1_expo : k0_pay1 (F := Ideal) w = expo (col w) := rfl

/-- The reference's exponent of a row. -/
theorem pay1 (j : S5120x1.Idx) : k0_pay1 (F := Ideal) w j = rexp (amax fun k => w (ix2 (j 0) k)) :=
  (congrFun (pay1_expo w) j).trans ((expo_apply _ j).trans (congrArg rexp (col_apply w j)))

theorem pay2_exp2 : k0_pay2 (F := Ideal) w = exp2 (k0_pay1 w) := rfl

theorem exp2_at (E : FVec Ideal S5120x1 .f32) (j) : exp2 E j = Ideal.exp2 (E j) := rfl

/-- The reference's scale of a row. -/
theorem pay2 (j : S5120x1.Idx) : k0_pay2 (F := Ideal) w j = rscale (amax fun k => w (ix2 (j 0) k)) :=
  (congrFun (pay2_exp2 w) j).trans ((exp2_at _ j).trans (congrArg Ideal.exp2 (pay1 w j)))

/-- The codes out of a column of exponents, as printed. -/
def codes (E : FVec Ideal S5120x1 .f32) : FVec Ideal S5120x17920 .f32 :=
  minimumf (broadcast S5120x17920 (Scalar.ofBits .f32 0x43E00000#32)) (maximumf (broadcast S5120x17920 (Scalar.ofBits .f32 0xC3E00000#32))
    (mulf w (broadcastTo S5120x17920 (exp2 (subf (broadcast S5120x1 (Scalar.ofBits .f32 0x00000000#32)) E)) broadcasts_S5120x1_S5120x17920)))

theorem codes_apply (E : FVec Ideal S5120x1 .f32) (j) : codes w E j = code (w j) (Ideal.exp2 (0 - E (ix2 (j 0) 0))) := by
  unfold codes
  pointwise [code]
  rfl

theorem pay3_codes : k0_pay3 (F := Ideal) w = codes w (k0_pay1 w) := rfl

/-- The reference's code of a weight. -/
theorem pay3 (j : S5120x17920.Idx) : k0_pay3 (F := Ideal) w j = code (w j) (rinv (amax fun k => w (ix2 (j 0) k))) :=
  (congrFun (pay3_codes w) j).trans <| (codes_apply w (k0_pay1 w) j).trans (congrArg (fun e => code (w j) (Ideal.exp2 (0 - e))) (pay1 w (ix2 (j 0) 0)))

/-- The weights out of codes and scales, as printed. -/
def weights (C : FVec Ideal S5120x17920 .fp8e4m3) (S : FVec Ideal S5120x1 .f32) : FVec Ideal S5120x17920 .bf16 :=
  mulf (extf .bf16 C bitsLt_fp8e4m3_bf16) (broadcastTo S5120x17920 (truncf .bf16 S bitsLt_bf16_f32) broadcasts_S5120x1_S5120x17920)

theorem weights_apply (C : FVec Ideal S5120x17920 .fp8e4m3) (S : FVec Ideal S5120x1 .f32) (j) : weights C S j = C j * S (ix2 (j 0) 0) := by
  unfold weights
  pointwise []

theorem pay4_weights : k0_pay4 (F := Ideal) w = weights (k0_pay3 w) (k0_pay2 w) := rfl

/-- The reference's weight put back together out of code and scale. -/
theorem pay4 (j : S5120x17920.Idx) : k0_pay4 (F := Ideal) w j
    = code (w j) (rinv (amax fun k => w (ix2 (j 0) k))) * rscale (amax fun k => w (ix2 (j 0) k)) :=
  (congrFun (pay4_weights w) j).trans <| (weights_apply (k0_pay3 w) (k0_pay2 w) j).trans <| by
    exact congrArg₂ (· * ·) (pay3 w j) (pay2 w (ix2 (j 0) 0))

end Cert.ReferenceIdeal.Rows

namespace Cert.ReferenceIdeal.Val

open Cert.ReferenceIdeal Cert.ReferenceIdeal.Gen Idealize.ShloMosaic Idealize.ShloMosaic.TcCoe Idealize.SL.Sem Cert.Quant
open Idealize.ShloMosaic.Pipeline (Dat)

variable (m : (ℓ : Loc nD τ sig) → Buf (Elt Ideal) ℓ)

/-- Every window is its whole array. -/
theorem idx : ∀ t : Fin cfg0.N, win0_0.index t = ![0, 0] ∧ win0_1.index t = ![0, 0] ∧ win0_2.index t = ![0, 0] ∧ win0_3.index t = ![0, 0] :=
  (by decide +kernel : ∀ t : Fin grid0.N, _)

/-- The reference's codes. -/
theorem final_codes (c : Dev nD) : (dats m 0 c).arrAt 1 (cfgs 0).N = rcodes (V m c main_arg1) := by
  refine (dats m 0 c).arrAt_eq_of_covers 1 _ (by decide +kernel) fun t hf y => ?_
  have h1 : iblk m c 0 t y = V m c main_arg1 (((cfg0.win 1).blk t).view.emb y) := by blk_point [iblk, idx t]
  have h2 : ∀ k : Fin 17920, iblk m c 0 t (ix2 (y 0) k) = V m c main_arg1 (ix2 (((cfg0.win 1).blk t).view.emb y 0) k) := fun k => by
    blk_point [iblk, idx t]
  have e : out0_1 (iblk m c 0 t) y = rcodes (V m c main_arg1) (((cfg0.win 1).blk t).view.emb y) := by
    unfold rcodes
    frame_out
    refine (Rows.pay3 _ y).trans ?_
    simp only [h1, h2]
  blk_simp
  rw [after0_1]
  exact e

/-- The reference's scales. -/
theorem final_scales (c : Dev nD) : (dats m 0 c).arrAt 2 (cfgs 0).N = rscales (V m c main_arg1) := by
  refine (dats m 0 c).arrAt_eq_of_covers 2 _ (by decide +kernel) fun t hf y => ?_
  have h2 : ∀ k : Fin 17920, iblk m c 0 t (ix2 (y 0) k) = V m c main_arg1 (ix2 (((cfg0.win 2).blk t).view.emb y 0) k) := fun k => by
    blk_point [iblk, idx t]
  have e : out0_2 (iblk m c 0 t) y = rscales (V m c main_arg1) (((cfg0.win 2).blk t).view.emb y) := by
    unfold rscales
    frame_out
    refine (Rows.pay2 _ y).trans ?_
    simp only [h2]
  blk_simp
  rw [after0_2]
  exact e

/-- The reference's weights. -/
theorem final_weights (c : Dev nD) : (dats m 0 c).arrAt 3 (cfgs 0).N = rweights (V m c main_arg1) := by
  refine (dats m 0 c).arrAt_eq_of_covers 3 _ (by decide +kernel) fun t hf y => ?_
  have h1 : iblk m c 0 t y = V m c main_arg1 (((cfg0.win 3).blk t).view.emb y) := by blk_point [iblk, idx t]
  have h2 : ∀ k : Fin 17920, iblk m c 0 t (ix2 (y 0) k) = V m c main_arg1 (ix2 (((cfg0.win 3).blk t).view.emb y 0) k) := fun k => by
    blk_point [iblk, idx t]
  have e : out0_3 (iblk m c 0 t) y = rweights (V m c main_arg1) (((cfg0.win 3).blk t).view.emb y) := by
    unfold rweights
    frame_out
    refine (Rows.pay4 _ y).trans ?_
    simp only [h1, h2]
  blk_simp
  rw [after0_3]
  exact e

end Cert.ReferenceIdeal.Val

namespace Cert.Pre_normal_rows.Rows

open Cert.Pre_normal_rows Cert.Pre_normal_rows.Gen Idealize.ShloMosaic Cert.Quant

/-- The condition out of the rows' largest magnitudes, as printed. -/
def cond (A : FVec Ideal S5120 .f32) : IVec S5120 1 :=
  ori (cmpf .oeq A (broadcastInDim S5120 ![] bcast_S_S5120 (constant S_ .f32 0x00000000#32)))
    (andi (cmpf .oge (mulf A (broadcastInDim S5120 ![] bcast_S_S5120 (constant S_ .f32 0x3B124925#32))) (broadcastInDim S5120 ![] bcast_S_S5120 (constant S_ .f32 0x00800000#32)))
      (cmpf .ole A (broadcastInDim S5120 ![] bcast_S_S5120 (constant S_ .f32 0x7F7FFFFF#32))))

theorem cond_apply (A : FVec Ideal S5120 .f32) (j) (h : cond A j = 1#1) : Ok (A j) := by
  have e : cond A j = IntOp.ori (BitVec.ofBool (decide (A j = 0))) (IntOp.andi (BitVec.ofBool (decide (Ideal.ofBits .f32 0x00800000#32 ≤ quot (A j))))
      (BitVec.ofBool (decide (A j ≤ Ideal.ofBits .f32 0x7F7FFFFF#32)))) := by
    unfold cond
    pointwise [quot]
  rw [e] at h
  unfold Ok
  by_cases h0 : A j = 0
  · exact .inl h0
  · by_cases h1 : Ideal.ofBits .f32 0x00800000#32 ≤ quot (A j)
    · by_cases h2 : A j ≤ Ideal.ofBits .f32 0x7F7FFFFF#32
      · exact .inr ⟨h1, h2⟩
      · rw [decide_eq_false h0, decide_eq_true h1, decide_eq_false h2] at h
        exact absurd h (by decide)
    · rw [decide_eq_false h0, decide_eq_false h1] at h
      generalize decide (A j ≤ Ideal.ofBits .f32 0x7F7FFFFF#32) = b at h
      exact absurd h (by cases b <;> decide)

theorem fn_cond (x : FVec Ideal S3x2048x17920 .bf16) (w : FVec Ideal S5120x17920 .f32) (g : FVec Ideal S3x2048x5120 .bf16) :
    Cert.Pre_normal_rows.fn x w g = cond (Host.reduce FloatOps.maximumf (Host.absf w) (constant S_ .f32 0xFF800000#32) reducesTo_S5120x17920_S5120_d1 h_S_) := rfl

/-- What the condition says of every row. -/
theorem ok (x : FVec Ideal S3x2048x17920 .bf16) (w : FVec Ideal S5120x17920 .f32) (g : FVec Ideal S3x2048x5120 .bf16)
    (h : ∀ j, Cert.Pre_normal_rows.fn x w g j = 1#1) (i : Fin 5120) : Ok (amax fun k => w (ix2 i k)) := by
  have h1 := cond_apply _ (ix1 i) ((congrFun (fn_cond x w g) (ix1 i)).symm.trans (h (ix1 i)))
  have h2 : Host.reduce FloatOps.maximumf (Host.absf w) (constant S_ .f32 0xFF800000#32) reducesTo_S5120x17920_S5120_d1 h_S_ (ix1 i) = amax fun k => w (ix2 i k) :=
    Cert.Rows.hostRowMax w _ _ _ (fun _ => rfl) (ix1 i)
  exact h2 ▸ h1

end Cert.Pre_normal_rows.Rows

end
-- ==== Proof.Single.RefRows.lean ====
/- The results of the quantiser in the first call's own reference. It is the quantiser of the whole reference, so its lemmas serve. -/
module

public import proofs.«01_k».proof.Proof.Gen.DwRefIdeal.Frame
public import proofs.«01_k».proof.Proof.RefRows

@[expose] public section

set_option maxRecDepth 16384

noncomputable section

namespace Cert.DwRefIdeal.Val

open Cert.DwRefIdeal Cert.DwRefIdeal.Gen Idealize.ShloMosaic Idealize.ShloMosaic.TcCoe Idealize.SL.Sem Cert.Quant
open Idealize.ShloMosaic.Pipeline (Dat)

variable (m : (ℓ : Loc nD τ sig) → Buf (Elt Ideal) ℓ)

/-- Every window is its whole array. -/
theorem idx : ∀ t : Fin cfg0.N, win0_0.index t = ![0, 0] ∧ win0_1.index t = ![0, 0] ∧ win0_2.index t = ![0, 0] ∧ win0_3.index t = ![0, 0] :=
  (by decide +kernel : ∀ t : Fin grid0.N, _)

/-- The reference's codes. -/
theorem final_codes (c : Dev nD) : (dats m 0 c).arrAt 1 (cfgs 0).N = rcodes (V m c main_arg1) := by
  refine (dats m 0 c).arrAt_eq_of_covers 1 _ (by decide +kernel) fun t hf y => ?_
  have h1 : iblk m c 0 t y = V m c main_arg1 (((cfg0.win 1).blk t).view.emb y) := by blk_point [iblk, idx t]
  have h2 : ∀ k : Fin 17920, iblk m c 0 t (ix2 (y 0) k) = V m c main_arg1 (ix2 (((cfg0.win 1).blk t).view.emb y 0) k) := fun k => by
    blk_point [iblk, idx t]
  have e : out0_1 (iblk m c 0 t) y = rcodes (V m c main_arg1) (((cfg0.win 1).blk t).view.emb y) := by
    unfold rcodes
    frame_out
    refine (Cert.ReferenceIdeal.Rows.pay3 _ y).trans ?_
    simp only [h1, h2]
  blk_simp
  rw [after0_1]
  exact e

/-- The reference's scales. -/
theorem final_scales (c : Dev nD) : (dats m 0 c).arrAt 2 (cfgs 0).N = rscales (V m c main_arg1) := by
  refine (dats m 0 c).arrAt_eq_of_covers 2 _ (by decide +kernel) fun t hf y => ?_
  have h2 : ∀ k : Fin 17920, iblk m c 0 t (ix2 (y 0) k) = V m c main_arg1 (ix2 (((cfg0.win 2).blk t).view.emb y 0) k) := fun k => by
    blk_point [iblk, idx t]
  have e : out0_2 (iblk m c 0 t) y = rscales (V m c main_arg1) (((cfg0.win 2).blk t).view.emb y) := by
    unfold rscales
    frame_out
    refine (Cert.ReferenceIdeal.Rows.pay2 _ y).trans ?_
    simp only [h2]
  blk_simp
  rw [after0_2]
  exact e

/-- The reference's weights. -/
theorem final_weights (c : Dev nD) : (dats m 0 c).arrAt 3 (cfgs 0).N = rweights (V m c main_arg1) := by
  refine (dats m 0 c).arrAt_eq_of_covers 3 _ (by decide +kernel) fun t hf y => ?_
  have h1 : iblk m c 0 t y = V m c main_arg1 (((cfg0.win 3).blk t).view.emb y) := by blk_point [iblk, idx t]
  have h2 : ∀ k : Fin 17920, iblk m c 0 t (ix2 (y 0) k) = V m c main_arg1 (ix2 (((cfg0.win 3).blk t).view.emb y 0) k) := fun k => by
    blk_point [iblk, idx t]
  have e : out0_3 (iblk m c 0 t) y = rweights (V m c main_arg1) (((cfg0.win 3).blk t).view.emb y) := by
    unfold rweights
    frame_out
    refine (Cert.ReferenceIdeal.Rows.pay4 _ y).trans ?_
    simp only [h1, h2]
  blk_simp
  rw [after0_3]
  exact e

end Cert.DwRefIdeal.Val

end
-- ==== Proof.Calls.Y.lean ====
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp

@[expose] public section

/-! The second call (`y`) from any contents of the buffers: the conditions of its body over the grid's points, where its
result's window is idle, and the accumulator it carries. -/

-- membership in a rectangle with long axes: the elaborator recurses once per coordinate
set_option maxRecDepth 16384

noncomputable section

namespace Cert.KernelIdeal.Calls

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the call is entered
variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for ANY proof
    data whose array is `V`'s (`hA`) and whose body leaves the block in place (`hafter`), by
    `Dat.before_in_eq_fetched` (unfetched, the index has not moved), the window uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1's current staging buffer holds its block at every point, fetched there or not, for ANY proof
    data whose array is `V`'s (`hA`) and whose body leaves the block in place (`hafter`), by
    `Dat.before_in_eq_fetched` (unfetched, the index has not moved), the window uncut and never idle. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## The body's branch conditions -/

/-- The condition of the body's `scf.if` 0 (`k1_h1`), from the grid coordinates (the skeleton's scalar
    chain substituted). -/
abbrev cond1_0 (i : grid1.Coords) : Prop := (Scalar.cmpi .ne (Scalar.extui (Scalar.cmpi .eq (BitVec.ofNat 32 (i 2).val) 0#32)) 0#32) = 1#1
/-- It holds at the points ≡ 0 (mod 7) — by arithmetic of the point. -/
theorem hcond1_0 : ∀ t : Fin cfg1.N, cond1_0 (grid1.coords t) ↔ t.val % 7 = 0 :=
  (fun t => by
    have ht : t.val < 168 := Nat.lt_of_lt_of_eq t.isLt N_1
    have e0 : (grid1.coords t 0).val = t.val / 28 % 6 := Pipeline.Grid.coords_val t 0 (by decide) rfl
    have e1 : (grid1.coords t 1).val = t.val / 7 % 4 := Pipeline.Grid.coords_val t 1 (by decide) rfl
    have e2 : (grid1.coords t 2).val = t.val / 1 % 7 := Pipeline.Grid.coords_val t 2 (by decide) rfl
    simp only [cond1_0, e0, e1, e2]
    word_cmp
   : ∀ t : Fin grid1.N, cond1_0 (grid1.coords t) ↔ t.val % 7 = 0)

/-- The condition of the body's `scf.if` 1 (`k1_h2`), from the grid coordinates (the skeleton's scalar
    chain substituted). -/
abbrev cond1_1 (i : grid1.Coords) : Prop := k1_cond2 i = 1#1
/-- It holds at the points ≡ 6 (mod 7) — by arithmetic of the point. -/
theorem hcond1_1 : ∀ t : Fin cfg1.N, cond1_1 (grid1.coords t) ↔ t.val % 7 = 6 :=
  (fun t => by
    have ht : t.val < 168 := Nat.lt_of_lt_of_eq t.isLt N_1
    have e0 : (grid1.coords t 0).val = t.val / 28 % 6 := Pipeline.Grid.coords_val t 0 (by decide) rfl
    have e1 : (grid1.coords t 1).val = t.val / 7 % 4 := Pipeline.Grid.coords_val t 1 (by decide) rfl
    have e2 : (grid1.coords t 2).val = t.val / 1 % 7 := Pipeline.Grid.coords_val t 2 (by decide) rfl
    simp only [cond1_1, k1_cond2, e0, e1, e2]
    word_cmp
   : ∀ t : Fin grid1.N, cond1_1 (grid1.coords t) ↔ t.val % 7 = 6)

/-! ## Where the windows are idle (the printed configuration's table `Cfg.idle`) -/

/-- Window 0 is never idle (an input). -/
theorem liveAt1_0 : ∀ t : Fin cfg1.N, cfg1.idle 0 (grid1.coords t) = false := fun _ => rfl
/-- Window 1 is never idle (an input). -/
theorem liveAt1_1 : ∀ t : Fin cfg1.N, cfg1.idle 1 (grid1.coords t) = false := fun _ => rfl
/-- At the points of case A the printed configuration (`Cfg.idle`) calls output 2 idle: the case stores nothing into it. -/
theorem idleAt1_2_A : ∀ t : Fin cfg1.N, cond1_0 (grid1.coords t) → ¬cond1_1 (grid1.coords t) → cfg1.idle 2 (grid1.coords t) = true := by decide +kernel
/-- At the points of case A the pipeline does not write output 2's block back. -/
theorem noFlush1_2_A : ∀ t : Fin cfg1.N, cond1_0 (grid1.coords t) → ¬cond1_1 (grid1.coords t) → (cfg1.win 2).flush t = false := by decide +kernel
/-- At the points of case B the printed configuration (`Cfg.idle`) calls output 2 idle: the case stores nothing into it. -/
theorem idleAt1_2_B : ∀ t : Fin cfg1.N, ¬cond1_0 (grid1.coords t) → ¬cond1_1 (grid1.coords t) → cfg1.idle 2 (grid1.coords t) = true := by decide +kernel
/-- At the points of case B the pipeline does not write output 2's block back. -/
theorem noFlush1_2_B : ∀ t : Fin cfg1.N, ¬cond1_0 (grid1.coords t) → ¬cond1_1 (grid1.coords t) → (cfg1.win 2).flush t = false := by decide +kernel
/-- At the points of case C the printed configuration (`Cfg.idle`) calls output 2 live: the case stores into it. -/
theorem liveAt1_2_C : ∀ t : Fin cfg1.N, ¬cond1_0 (grid1.coords t) → cond1_1 (grid1.coords t) → cfg1.idle 2 (grid1.coords t) = false := by decide +kernel

/-! ## The kernel body on any staging memrefs: a subtype the run finds -/

/-- One staging buffer of output window 2, through which its contents are stated (`View.read_writes_of_cover`: the
    choice does not matter). -/
abbrev VO1_2 : View sig .tc .vmem S1024x1280 .bf16 := (Memref.whole cc1_stg2_0 : Memref sig .tc .vmem S1024x1280 .bf16).view
/-- Each window's current staging memref at point `t`, spelled as the pipeline passes it (`bodyAt1`), and its wholeness. -/
abbrev ms1_0 (t : Fin cfg1.N) : Memref sig .tc .vmem S1024x2560 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1280x2560 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1024x1280 .bf16 := win1_2.stage (cfg1.slots t 2)
abbrev hs1_2 (t : Fin cfg1.N) : (ms1_2 t).IsWhole := hstage1_2 ((cfg1.slots t 2).cast nbuf1_2)
/-- The scratch operands: whole scoped buffers of the kernel's own, passed beside the windows. -/
abbrev scM1_0 : Memref sig .tc .vmem S1024x1280 .f32 := Memref.whole cc1_scratch0
/-- The scratch `arg6` the kernel carries between points, as a view: what it holds is stated through it. -/
abbrev VS1_0 : View sig .tc .vmem S1024x1280 .f32 := scM1_0.view

/-- What rides through the second call untouched: the other calls' scoped buffers, each at some contents, and the
    generator register. -/
def carried1 (c : Dev nD) : sProp 𝕄 :=
  iprop(Pipeline.scopedRestBut (Ix := Unit) (Name := ℕ) (U := UR sig nD τ) (Lvl := ℕ) (Val := Elt F) spec1 c [cc1_scratch0] ∗ (∃ r, prngReg c r))

/-- What the call may use besides its windows, split: its accumulator at some contents, and what rides untouched. -/
theorem PhiA1_eq (c : Dev nD) :
    (Pipeline.ΦA spec1 c : sProp 𝕄)
      = iprop(iprop((∃ d, owns (c : Thread nD τ) scM1_0 fullShare d)) ∗ (carried1 c)) := by
  unfold Pipeline.ΦA carried1
  rw [Pipeline.scopedRest_split_of_list spec1 c [cc1_scratch0] (by decide) (by decide), bigSepL_singleton]
  simp only [scM1_0, owns_whole]
  exact Idealize.SL.BI.Entails.antisymm Idealize.SL.BI.sep_assoc Idealize.SL.BI.sep_assoc'

end Cert.KernelIdeal.Calls

end
-- ==== Proof.Calls.YRuns.lean ====
module

public import proofs.«01_k».proof.Proof.Calls.Y

@[expose] public section

/-! The body of the second call in each of its three cases. -/

-- membership in a rectangle with long axes: the elaborator recurses once per coordinate
set_option maxRecDepth 16384

noncomputable section

namespace Cert.KernelIdeal.Calls

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the call is entered
variable (V : (c : Dev nD) → (b : Ref sig .tc) → Buf (Elt F) ((c : Thread nD τ).loc b))

-- (the run's proof term is large: the definition's epilogue — `abstractNestedProofs` — walks it past the default budget)
set_option maxHeartbeats 1000000 in
/-- What the body's stores leave in each output's staging memref, as pieces (last first) IN CASE A (`scf.if` 0 taken, `scf.if` 1 not taken: points 0, 7, … 161: 24 of 168), WITH the
    proof that on whole staging memrefs — the inputs' at their contents, the outputs it leaves idle (2: no store, the window idle and not written back at the case's points) at contents `xi·` handed back untouched, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs — each `scf.if` decided by the case's hypotheses `hc·`; the pieces are
    the witness that run finds (assigned when `iexact` hands the buffer to the continuation). -/
noncomputable def kernelRun1_A (c : Dev nD) (i : grid1.Coords) (arg3 : Memref sig .tc .vmem S1024x2560 .bf16) (harg3 : arg3.IsWhole) (arg4 : Memref sig .tc .vmem S1280x2560 .bf16) (harg4 : arg4.IsWhole) (arg5 : Memref sig .tc .vmem S1024x1280 .bf16) (harg5 : arg5.IsWhole) (arg6 : Memref sig .tc .vmem S1024x1280 .f32) (harg6 : arg6.IsWhole) (hc0 : cond1_0 i) (hc1 : ¬cond1_1 i)
    (x0 : Vec F S1024x2560 .bf16) (x1 : Vec F S1280x2560 .bf16) :
    Σ' (L2 : List (View.Piece (Elt F) S1024x1280 .bf16)), { LS0 : List (View.Piece (Elt F) S1024x1280 .f32) //
      ∀ (xi2 : Vec F S1024x1280 .bf16) (E : Set ℕ) (K : PUnit → sProp 𝕄),
        iprop(owns (c : Thread nD τ) arg3 fullShare x0 ∗ owns (c : Thread nD τ) arg4 fullShare x1 ∗ owns (c : Thread nD τ) arg5 fullShare xi2 ∗ (∃ d, owns (c : Thread nD τ) arg6 fullShare d)
            ∗ (iprop(owns (c : Thread nD τ) arg3 fullShare x0 ∗ owns (c : Thread nD τ) arg4 fullShare x1 ∗ owns (c : Thread nD τ) arg5 fullShare xi2 ∗ (∃ f, arg6.view.loc (c : Thread nD τ) ↦[arg6.view.set]{fullShare} arg6.view.writes (Elt F) f LS0)) -∗ K ⟨⟩))
          ⊢ wp frame (wpE (defs₀ (F := F)) Variants.none c none) E (cc1_y i arg3 harg3 arg4 harg4 arg5 harg5 arg6 harg6) K } := by
  refine ⟨[], ?_, fun xi2 E K => ?run⟩
  case run =>
    simp only [cc1_y_eq_skeleton]; unfold cc1_y_skel
    unfold owns
    iintro ⟨⟨%f0, %hf0, H0⟩, ⟨%f1, %hf1, H1⟩, ⟨%f2, %hf2, H2⟩, ⟨%ds0, %fs0, -, HS0⟩, Hk⟩
    obtain rfl := harg3.eq_unread hf0; obtain rfl := harg4.eq_unread hf1; obtain rfl := harg5.eq_unread hf2
    sl_exec (disch := first | sl_exact hc0 | sl_exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    iexists _; iexact HS0

-- (the run's proof term is large: the definition's epilogue — `abstractNestedProofs` — walks it past the default budget)
set_option maxHeartbeats 1000000 in
/-- What the body's stores leave in each output's staging memref, as pieces (last first) IN CASE B (`scf.if` 0 not taken, `scf.if` 1 not taken: points 1, 2, … 166: 120 of 168), WITH the
    proof that on whole staging memrefs — the inputs' at their contents, the outputs it leaves idle (2: no store, the window idle and not written back at the case's points) at contents `xi·` handed back untouched, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs — each `scf.if` decided by the case's hypotheses `hc·`; the pieces are
    the witness that run finds (assigned when `iexact` hands the buffer to the continuation). -/
noncomputable def kernelRun1_B (c : Dev nD) (i : grid1.Coords) (arg3 : Memref sig .tc .vmem S1024x2560 .bf16) (harg3 : arg3.IsWhole) (arg4 : Memref sig .tc .vmem S1280x2560 .bf16) (harg4 : arg4.IsWhole) (arg5 : Memref sig .tc .vmem S1024x1280 .bf16) (harg5 : arg5.IsWhole) (arg6 : Memref sig .tc .vmem S1024x1280 .f32) (harg6 : arg6.IsWhole) (hc0 : ¬cond1_0 i) (hc1 : ¬cond1_1 i)
    (x0 : Vec F S1024x2560 .bf16) (x1 : Vec F S1280x2560 .bf16) (xs0 : Vec F S1024x1280 .f32) :
    Σ' (L2 : List (View.Piece (Elt F) S1024x1280 .bf16)), { LS0 : List (View.Piece (Elt F) S1024x1280 .f32) //
      ∀ (xi2 : Vec F S1024x1280 .bf16) (E : Set ℕ) (K : PUnit → sProp 𝕄),
        iprop(owns (c : Thread nD τ) arg3 fullShare x0 ∗ owns (c : Thread nD τ) arg4 fullShare x1 ∗ owns (c : Thread nD τ) arg5 fullShare xi2 ∗ owns (c : Thread nD τ) arg6 fullShare xs0
            ∗ (iprop(owns (c : Thread nD τ) arg3 fullShare x0 ∗ owns (c : Thread nD τ) arg4 fullShare x1 ∗ owns (c : Thread nD τ) arg5 fullShare xi2 ∗ (∃ f, arg6.view.loc (c : Thread nD τ) ↦[arg6.view.set]{fullShare} arg6.view.writes (Elt F) f LS0)) -∗ K ⟨⟩))
          ⊢ wp frame (wpE (defs₀ (F := F)) Variants.none c none) E (cc1_y i arg3 harg3 arg4 harg4 arg5 harg5 arg6 harg6) K } := by
  refine ⟨[], ?_, fun xi2 E K => ?run⟩
  case run =>
    simp only [cc1_y_eq_skeleton]; unfold cc1_y_skel
    unfold owns
    iintro ⟨⟨%f0, %hf0, H0⟩, ⟨%f1, %hf1, H1⟩, ⟨%f2, %hf2, H2⟩, ⟨%fs0, %hfs0, HS0⟩, Hk⟩
    obtain rfl := harg3.eq_unread hf0; obtain rfl := harg4.eq_unread hf1; obtain rfl := harg5.eq_unread hf2; obtain rfl := harg6.eq_unread hfs0
    sl_exec (disch := first | sl_exact hc0 | sl_exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    iexists _; iexact HS0

-- (the run's proof term is large: the definition's epilogue — `abstractNestedProofs` — walks it past the default budget)
set_option maxHeartbeats 1000000 in
/-- What the body's stores leave in each output's staging memref, as pieces (last first) IN CASE C (`scf.if` 0 not taken, `scf.if` 1 taken: points 6, 13, … 167: 24 of 168), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs — each `scf.if` decided by the case's hypotheses `hc·`; the pieces are
    the witness that run finds (assigned when `iexact` hands the buffer to the continuation). -/
noncomputable def kernelRun1_C (c : Dev nD) (i : grid1.Coords) (arg3 : Memref sig .tc .vmem S1024x2560 .bf16) (harg3 : arg3.IsWhole) (arg4 : Memref sig .tc .vmem S1280x2560 .bf16) (harg4 : arg4.IsWhole) (arg5 : Memref sig .tc .vmem S1024x1280 .bf16) (harg5 : arg5.IsWhole) (arg6 : Memref sig .tc .vmem S1024x1280 .f32) (harg6 : arg6.IsWhole) (hc0 : ¬cond1_0 i) (hc1 : cond1_1 i)
    (x0 : Vec F S1024x2560 .bf16) (x1 : Vec F S1280x2560 .bf16) (xs0 : Vec F S1024x1280 .f32) :
    Σ' (L2 : List (View.Piece (Elt F) S1024x1280 .bf16)), { LS0 : List (View.Piece (Elt F) S1024x1280 .f32) //
      ∀ (E : Set ℕ) (K : PUnit → sProp 𝕄),
        iprop(owns (c : Thread nD τ) arg3 fullShare x0 ∗ owns (c : Thread nD τ) arg4 fullShare x1 ∗ (∃ d, owns (c : Thread nD τ) arg5 fullShare d) ∗ owns (c : Thread nD τ) arg6 fullShare xs0
            ∗ (iprop(owns (c : Thread nD τ) arg3 fullShare x0 ∗ owns (c : Thread nD τ) arg4 fullShare x1 ∗ (∃ f, arg5.view.loc (c : Thread nD τ) ↦[arg5.view.set]{fullShare} arg5.view.writes (Elt F) f L2) ∗ (∃ f, arg6.view.loc (c : Thread nD τ) ↦[arg6.view.set]{fullShare} arg6.view.writes (Elt F) f LS0)) -∗ K ⟨⟩))
          ⊢ wp frame (wpE (defs₀ (F := F)) Variants.none c none) E (cc1_y i arg3 harg3 arg4 harg4 arg5 harg5 arg6 harg6) K } := by
  refine ⟨?_, ?_, fun E K => ?run⟩
  case run =>
    simp only [cc1_y_eq_skeleton]; unfold cc1_y_skel
    unfold owns
    iintro ⟨⟨%f0, %hf0, H0⟩, ⟨%f1, %hf1, H1⟩, ⟨%d2, %f2, -, H2⟩, ⟨%fs0, %hfs0, HS0⟩, Hk⟩
    obtain rfl := harg3.eq_unread hf0; obtain rfl := harg4.eq_unread hf1; obtain rfl := harg6.eq_unread hfs0
    sl_exec (disch := first | sl_exact hc0 | sl_exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]; · iexists _; iexact H2
    iexists _; iexact HS0

end Cert.KernelIdeal.Calls

end
-- ==== Proof.Calls.YPoints.lean ====
module

public import proofs.«01_k».proof.Proof.Calls.YRuns

@[expose] public section

/-! What the second call leaves point by point, and its body's obligation. -/

-- membership in a rectangle with long axes: the elaborator recurses once per coordinate
set_option maxRecDepth 16384

noncomputable section

namespace Cert.KernelIdeal.Calls

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the call is entered
variable (V : (c : Dev nD) → (b : Ref sig .tc) → Buf (Elt F) ((c : Thread nD τ).loc b))

/-- Case A stores nothing into output 2 (the window is idle at its points and not written back there):
    no pieces — a placeholder (junk read back) that nothing consults, since at these points the window is neither
    written back nor read at the next point. -/
def out1_A_2 (c : Dev nD) (i : grid1.Coords) (arg3 : Memref sig .tc .vmem S1024x2560 .bf16) (harg3 : arg3.IsWhole) (arg4 : Memref sig .tc .vmem S1280x2560 .bf16) (harg4 : arg4.IsWhole) (arg5 : Memref sig .tc .vmem S1024x1280 .bf16) (harg5 : arg5.IsWhole) (arg6 : Memref sig .tc .vmem S1024x1280 .f32) (harg6 : arg6.IsWhole) (hc0 : cond1_0 i) (hc1 : ¬cond1_1 i)
    (x0 : Vec F S1024x2560 .bf16) (x1 : Vec F S1280x2560 .bf16) : Vec F S1024x1280 .bf16 :=
  VO1_2.read (Elt F) (VO1_2.writes (Elt F) VO1_2.junk (kernelRun1_A c i arg3 harg3 arg4 harg4 arg5 harg5 arg6 harg6 hc0 hc1 x0 x1).1)

/-- Case A's pieces for scratch `arg6`, which the kernel carries between points, cover it: 2 pieces of `S1024x1280` tiling it. -/
theorem scover1_A_0 (c : Dev nD) (i : grid1.Coords) (arg3 : Memref sig .tc .vmem S1024x2560 .bf16) (harg3 : arg3.IsWhole) (arg4 : Memref sig .tc .vmem S1280x2560 .bf16) (harg4 : arg4.IsWhole) (arg5 : Memref sig .tc .vmem S1024x1280 .bf16) (harg5 : arg5.IsWhole) (arg6 : Memref sig .tc .vmem S1024x1280 .f32) (harg6 : arg6.IsWhole) (hc0 : cond1_0 i) (hc1 : ¬cond1_1 i)
    (x0 : Vec F S1024x2560 .bf16) (x1 : Vec F S1280x2560 .bf16) (y : S1024x1280.Idx) :
    ∃ pc ∈ (kernelRun1_A c i arg3 harg3 arg4 harg4 arg5 harg5 arg6 harg6 hc0 hc1 x0 x1).2.1, y ∈ pc.1.set :=
  View.cover_of_tiledL (kernelRun1_A c i arg3 harg3 arg4 harg4 arg5 harg5 arg6 harg6 hc0 hc1 x0 x1).2.1 S1024x1280.size (by sl_kernel_rfl) y

/-- What case A leaves in scratch `arg6`: its pieces read back over junk. -/
def sout1_A_0 (c : Dev nD) (i : grid1.Coords) (arg3 : Memref sig .tc .vmem S1024x2560 .bf16) (harg3 : arg3.IsWhole) (arg4 : Memref sig .tc .vmem S1280x2560 .bf16) (harg4 : arg4.IsWhole) (arg5 : Memref sig .tc .vmem S1024x1280 .bf16) (harg5 : arg5.IsWhole) (arg6 : Memref sig .tc .vmem S1024x1280 .f32) (harg6 : arg6.IsWhole) (hc0 : cond1_0 i) (hc1 : ¬cond1_1 i)
    (x0 : Vec F S1024x2560 .bf16) (x1 : Vec F S1280x2560 .bf16) : Vec F S1024x1280 .f32 :=
  VS1_0.read (Elt F) (VS1_0.writes (Elt F) VS1_0.junk (kernelRun1_A c i arg3 harg3 arg4 harg4 arg5 harg5 arg6 harg6 hc0 hc1 x0 x1).2.1)

/-- Case B stores nothing into output 2 (the window is idle at its points and not written back there):
    no pieces — a placeholder (junk read back) that nothing consults, since at these points the window is neither
    written back nor read at the next point. -/
def out1_B_2 (c : Dev nD) (i : grid1.Coords) (arg3 : Memref sig .tc .vmem S1024x2560 .bf16) (harg3 : arg3.IsWhole) (arg4 : Memref sig .tc .vmem S1280x2560 .bf16) (harg4 : arg4.IsWhole) (arg5 : Memref sig .tc .vmem S1024x1280 .bf16) (harg5 : arg5.IsWhole) (arg6 : Memref sig .tc .vmem S1024x1280 .f32) (harg6 : arg6.IsWhole) (hc0 : ¬cond1_0 i) (hc1 : ¬cond1_1 i)
    (x0 : Vec F S1024x2560 .bf16) (x1 : Vec F S1280x2560 .bf16) (xs0 : Vec F S1024x1280 .f32) : Vec F S1024x1280 .bf16 :=
  VO1_2.read (Elt F) (VO1_2.writes (Elt F) VO1_2.junk (kernelRun1_B c i arg3 harg3 arg4 harg4 arg5 harg5 arg6 harg6 hc0 hc1 x0 x1 xs0).1)

/-- Case B's pieces for scratch `arg6`, which the kernel carries between points, cover it: 1 piece of `S1024x1280` tiling it. -/
theorem scover1_B_0 (c : Dev nD) (i : grid1.Coords) (arg3 : Memref sig .tc .vmem S1024x2560 .bf16) (harg3 : arg3.IsWhole) (arg4 : Memref sig .tc .vmem S1280x2560 .bf16) (harg4 : arg4.IsWhole) (arg5 : Memref sig .tc .vmem S1024x1280 .bf16) (harg5 : arg5.IsWhole) (arg6 : Memref sig .tc .vmem S1024x1280 .f32) (harg6 : arg6.IsWhole) (hc0 : ¬cond1_0 i) (hc1 : ¬cond1_1 i)
    (x0 : Vec F S1024x2560 .bf16) (x1 : Vec F S1280x2560 .bf16) (xs0 : Vec F S1024x1280 .f32) (y : S1024x1280.Idx) :
    ∃ pc ∈ (kernelRun1_B c i arg3 harg3 arg4 harg4 arg5 harg5 arg6 harg6 hc0 hc1 x0 x1 xs0).2.1, y ∈ pc.1.set :=
  View.cover_of_tiledL (kernelRun1_B c i arg3 harg3 arg4 harg4 arg5 harg5 arg6 harg6 hc0 hc1 x0 x1 xs0).2.1 S1024x1280.size (by sl_kernel_rfl) y

/-- What case B leaves in scratch `arg6`: its pieces read back over junk. -/
def sout1_B_0 (c : Dev nD) (i : grid1.Coords) (arg3 : Memref sig .tc .vmem S1024x2560 .bf16) (harg3 : arg3.IsWhole) (arg4 : Memref sig .tc .vmem S1280x2560 .bf16) (harg4 : arg4.IsWhole) (arg5 : Memref sig .tc .vmem S1024x1280 .bf16) (harg5 : arg5.IsWhole) (arg6 : Memref sig .tc .vmem S1024x1280 .f32) (harg6 : arg6.IsWhole) (hc0 : ¬cond1_0 i) (hc1 : ¬cond1_1 i)
    (x0 : Vec F S1024x2560 .bf16) (x1 : Vec F S1280x2560 .bf16) (xs0 : Vec F S1024x1280 .f32) : Vec F S1024x1280 .f32 :=
  VS1_0.read (Elt F) (VS1_0.writes (Elt F) VS1_0.junk (kernelRun1_B c i arg3 harg3 arg4 harg4 arg5 harg5 arg6 harg6 hc0 hc1 x0 x1 xs0).2.1)

/-- Case C's pieces for output 2 tile its block (1 store of `S1024x1280`, checked by evaluating `Piece.tiledL`), so they cover it. -/
theorem cover1_C_2 (c : Dev nD) (i : grid1.Coords) (arg3 : Memref sig .tc .vmem S1024x2560 .bf16) (harg3 : arg3.IsWhole) (arg4 : Memref sig .tc .vmem S1280x2560 .bf16) (harg4 : arg4.IsWhole) (arg5 : Memref sig .tc .vmem S1024x1280 .bf16) (harg5 : arg5.IsWhole) (arg6 : Memref sig .tc .vmem S1024x1280 .f32) (harg6 : arg6.IsWhole) (hc0 : ¬cond1_0 i) (hc1 : cond1_1 i)
    (x0 : Vec F S1024x2560 .bf16) (x1 : Vec F S1280x2560 .bf16) (xs0 : Vec F S1024x1280 .f32) (y : S1024x1280.Idx) :
    ∃ pc ∈ (kernelRun1_C c i arg3 harg3 arg4 harg4 arg5 harg5 arg6 harg6 hc0 hc1 x0 x1 xs0).1, y ∈ pc.1.set :=
  View.cover_of_tiledL (kernelRun1_C c i arg3 harg3 arg4 harg4 arg5 harg5 arg6 harg6 hc0 hc1 x0 x1 xs0).1 S1024x1280.size (by sl_kernel_rfl) y

/-- What case C leaves in output 2's staging buffer: its pieces read back over junk. -/
def out1_C_2 (c : Dev nD) (i : grid1.Coords) (arg3 : Memref sig .tc .vmem S1024x2560 .bf16) (harg3 : arg3.IsWhole) (arg4 : Memref sig .tc .vmem S1280x2560 .bf16) (harg4 : arg4.IsWhole) (arg5 : Memref sig .tc .vmem S1024x1280 .bf16) (harg5 : arg5.IsWhole) (arg6 : Memref sig .tc .vmem S1024x1280 .f32) (harg6 : arg6.IsWhole) (hc0 : ¬cond1_0 i) (hc1 : cond1_1 i)
    (x0 : Vec F S1024x2560 .bf16) (x1 : Vec F S1280x2560 .bf16) (xs0 : Vec F S1024x1280 .f32) : Vec F S1024x1280 .bf16 :=
  VO1_2.read (Elt F) (VO1_2.writes (Elt F) VO1_2.junk (kernelRun1_C c i arg3 harg3 arg4 harg4 arg5 harg5 arg6 harg6 hc0 hc1 x0 x1 xs0).1)

/-- Case C's pieces for scratch `arg6`, which the kernel carries between points, cover it: 1 piece of `S1024x1280` tiling it. -/
theorem scover1_C_0 (c : Dev nD) (i : grid1.Coords) (arg3 : Memref sig .tc .vmem S1024x2560 .bf16) (harg3 : arg3.IsWhole) (arg4 : Memref sig .tc .vmem S1280x2560 .bf16) (harg4 : arg4.IsWhole) (arg5 : Memref sig .tc .vmem S1024x1280 .bf16) (harg5 : arg5.IsWhole) (arg6 : Memref sig .tc .vmem S1024x1280 .f32) (harg6 : arg6.IsWhole) (hc0 : ¬cond1_0 i) (hc1 : cond1_1 i)
    (x0 : Vec F S1024x2560 .bf16) (x1 : Vec F S1280x2560 .bf16) (xs0 : Vec F S1024x1280 .f32) (y : S1024x1280.Idx) :
    ∃ pc ∈ (kernelRun1_C c i arg3 harg3 arg4 harg4 arg5 harg5 arg6 harg6 hc0 hc1 x0 x1 xs0).2.1, y ∈ pc.1.set :=
  View.cover_of_tiledL (kernelRun1_C c i arg3 harg3 arg4 harg4 arg5 harg5 arg6 harg6 hc0 hc1 x0 x1 xs0).2.1 S1024x1280.size (by sl_kernel_rfl) y

/-- What case C leaves in scratch `arg6`: its pieces read back over junk. -/
def sout1_C_0 (c : Dev nD) (i : grid1.Coords) (arg3 : Memref sig .tc .vmem S1024x2560 .bf16) (harg3 : arg3.IsWhole) (arg4 : Memref sig .tc .vmem S1280x2560 .bf16) (harg4 : arg4.IsWhole) (arg5 : Memref sig .tc .vmem S1024x1280 .bf16) (harg5 : arg5.IsWhole) (arg6 : Memref sig .tc .vmem S1024x1280 .f32) (harg6 : arg6.IsWhole) (hc0 : ¬cond1_0 i) (hc1 : cond1_1 i)
    (x0 : Vec F S1024x2560 .bf16) (x1 : Vec F S1280x2560 .bf16) (xs0 : Vec F S1024x1280 .f32) : Vec F S1024x1280 .f32 :=
  VS1_0.read (Elt F) (VS1_0.writes (Elt F) VS1_0.junk (kernelRun1_C c i arg3 harg3 arg4 harg4 arg5 harg5 arg6 harg6 hc0 hc1 x0 x1 xs0).2.1)

/-! ## What the outputs hold after each point -/

/-- THE ACCUMULATION. What the outputs' staging buffers and the scratch the kernel carries between points hold after the body at position `n` (a tuple: the outputs in window order, then the scratch):
    the case the closed forms select at `n`, run at the point's memrefs and input blocks, an output it reads before covering
    at what this leaves at `n - 1` (its buffer is not written back between: `before1_W_κ`). An assignment of the conditions no point meets is no case (`False.elim`). -/
def outsAt1 (c : Dev nD) : (n : ℕ) → n < cfg1.N → Vec F S1024x1280 .bf16 × Vec F S1024x1280 .f32
  | 0, hn => (out1_A_2 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩), sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩))
  | n + 1, hn =>
    if h0 : (n + 1) % 7 = 0 then
      if h1 : (n + 1) % 7 = 6 then
        False.elim (by have hN : n + 1 < 168 := lt_of_lt_of_eq hn (show cfg1.N = 168 from N_1); omega)
      else
        (out1_A_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩), sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩))
    else
      if h1 : (n + 1) % 7 = 6 then
        (out1_C_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (outsAt1 c n (Nat.lt_of_succ_lt hn)).2, sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (outsAt1 c n (Nat.lt_of_succ_lt hn)).2)
      else
        (out1_B_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (outsAt1 c n (Nat.lt_of_succ_lt hn)).2, sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (outsAt1 c n (Nat.lt_of_succ_lt hn)).2)

/-- `outsAt1` at a point of case A: that case's contents. -/
theorem outsAt1_A (c : Dev nD) (t : Fin cfg1.N) (h0 : t.val % 7 = 0) (h1 : ¬t.val % 7 = 6) :
    outsAt1 V c t.val t.isLt = (out1_A_2 c (grid1.coords t) (ms1_0 t) (hs1_0 t) (ms1_1 t) (hs1_1 t) (ms1_2 t) (hs1_2 t) scM1_0 (Memref.isWhole_whole _) ((hcond1_0 t).mpr h0) (fun h => h1 ((hcond1_1 t).mp h)) (iblk1 V c 0 t) (iblk1 V c 1 t), sout1_A_0 c (grid1.coords t) (ms1_0 t) (hs1_0 t) (ms1_1 t) (hs1_1 t) (ms1_2 t) (hs1_2 t) scM1_0 (Memref.isWhole_whole _) ((hcond1_0 t).mpr h0) (fun h => h1 ((hcond1_1 t).mp h)) (iblk1 V c 0 t) (iblk1 V c 1 t)) := by
  obtain ⟨n, hn⟩ := t
  cases n with
  | zero => exact rfl
  | succ n => exact (dif_pos h0).trans ((dif_neg h1).trans rfl)

/-- `outsAt1` at a point of case B: that case's contents, over what the point before left. -/
theorem outsAt1_B (c : Dev nD) (t : Fin cfg1.N) (h0 : ¬t.val % 7 = 0) (h1 : ¬t.val % 7 = 6) :
    outsAt1 V c t.val t.isLt = (out1_B_2 c (grid1.coords t) (ms1_0 t) (hs1_0 t) (ms1_1 t) (hs1_1 t) (ms1_2 t) (hs1_2 t) scM1_0 (Memref.isWhole_whole _) (fun h => h0 ((hcond1_0 t).mp h)) (fun h => h1 ((hcond1_1 t).mp h)) (iblk1 V c 0 t) (iblk1 V c 1 t) (outsAt1 V c (t.val - 1) (Nat.lt_of_le_of_lt (Nat.sub_le _ _) t.isLt)).2, sout1_B_0 c (grid1.coords t) (ms1_0 t) (hs1_0 t) (ms1_1 t) (hs1_1 t) (ms1_2 t) (hs1_2 t) scM1_0 (Memref.isWhole_whole _) (fun h => h0 ((hcond1_0 t).mp h)) (fun h => h1 ((hcond1_1 t).mp h)) (iblk1 V c 0 t) (iblk1 V c 1 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- `outsAt1` at a point of case C: that case's contents, over what the point before left. -/
theorem outsAt1_C (c : Dev nD) (t : Fin cfg1.N) (h0 : ¬t.val % 7 = 0) (h1 : t.val % 7 = 6) :
    outsAt1 V c t.val t.isLt = (out1_C_2 c (grid1.coords t) (ms1_0 t) (hs1_0 t) (ms1_1 t) (hs1_1 t) (ms1_2 t) (hs1_2 t) scM1_0 (Memref.isWhole_whole _) (fun h => h0 ((hcond1_0 t).mp h)) ((hcond1_1 t).mpr h1) (iblk1 V c 0 t) (iblk1 V c 1 t) (outsAt1 V c (t.val - 1) (Nat.lt_of_le_of_lt (Nat.sub_le _ _) t.isLt)).2, sout1_C_0 c (grid1.coords t) (ms1_0 t) (hs1_0 t) (ms1_1 t) (hs1_1 t) (ms1_2 t) (hs1_2 t) scM1_0 (Memref.isWhole_whole _) (fun h => h0 ((hcond1_0 t).mp h)) ((hcond1_1 t).mpr h1) (iblk1 V c 0 t) (iblk1 V c 1 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region invariant before position `n` with a scratch the kernel CARRIES between points: before the first point the
    class's; afterwards the scoped rest with each carried scratch
    at what the point before left in it (`outsAt1`'s scratch components), the others at anything, and the generator register
    at some state. -/
def PhiS (c : Dev nD) : (n : ℕ) → n ≤ cfg1.N → sProp 𝕄
  | 0, _ => Pipeline.ΦA spec1 c
  | n + 1, hn => iprop(iprop(owns (c : Thread nD τ) scM1_0 fullShare ((outsAt1 V c n hn).2)) ∗ (carried1 c))

theorem PhiS_zero (c : Dev nD) (n : ℕ) (h : n ≤ cfg1.N) (hz : n = 0) : PhiS V c n h = Pipeline.ΦA spec1 c := by
  subst hz; rfl

/-- After point `n` (before point `n + 1`): the carried scratch at that point's contents. -/
theorem PhiS_succ (c : Dev nD) (n : ℕ) (hn : n < cfg1.N) :
    PhiS V c (n + 1) hn = iprop(iprop(owns (c : Thread nD τ) scM1_0 fullShare ((outsAt1 V c n hn).2)) ∗ (carried1 c)) := rfl

/-- Before a point that is not the first: the carried scratch at what the point before left. -/
theorem PhiS_pos (c : Dev nD) (n : ℕ) (h : n ≤ cfg1.N) (hz : n ≠ 0) :
    PhiS V c n h = iprop(iprop(owns (c : Thread nD τ) scM1_0 fullShare ((outsAt1 V c (n - 1) (by omega)).2)) ∗ (carried1 c)) := by
  cases n with
  | zero => exact absurd rfl hz
  | succ n => rfl

/-! ## The pipeline's proof data -/

/-- The proof data of the one pipeline on core `c`: the arrays as the region finds them (`V`); after the body at
    point `t` each input's buffer at its block and the outputs' at `outsAt1`; the invariant the class's
    (`PhiS`: the class's `ΦA` before the first point, then the scoped rest with the carried scratch at `outsAt1`'s component);
    nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => (outsAt1 V c t.val t.isLt).1
  Φ t := PhiS V c t.val (Nat.le_of_lt_succ t.isLt)
  q _ := fullShare
  owed _ := 0

/-- The proof data's arrays are the region-entry contents: the proof data's definition projected (`dsimp`), so that
    `V` — a fold over @main's host prefix, long for some programs — is never unfolded to check it. -/
theorem A_eq1 (c : Dev nD) (w : Fin cfg1.W) : (dat1 V c).A w = V c (Pipeline.arrRef spec1 w) := by
  dsimp only [dat1]

/-- The invariant at a point's start (the proof data at `t.castSucc`), restated at `t.val`. -/
theorem PhiS_castSucc (c : Dev nD) (t : Fin cfg1.N) :
    (dat1 V c).Φ t.castSucc = PhiS V c t.val (Nat.le_of_lt t.isLt) := by
  dsimp only [dat1]; exact Pipeline.Dat.Φ_castSucc (PhiS V c) t

/-- What the body leaves, window by window (the proof data's `match` reduced by `dsimp`). -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = (outsAt1 V c t.val t.isLt).1 := by dsimp only [dat1]

/-- Each input's current staging buffer holds its block at every point, fetched there or not (`beforeK_W_of`). -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation, at a generic point -/

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

set_option maxHeartbeats 4800000 in
/-- The body at any point: the inputs' memrefs hold their blocks (`before1_W`); the closed forms say which case the point is in (`by_cases`), an output the case reads before covering holds what the point before left (`before1_W_κ`); so the
    run applies; the invariant hands the body the carried scratch at what the point before left (`PhiS_pos`; at anything at the first point, `PhiS_zero`), the other scratch buffers and the generator register at some state, and takes the carried scratch back at this point's contents (`PhiS_succ`, by `scoverK_κ_N`); the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = PhiS V c (t.val + 1) t.isLt from rfl, PhiS_succ]
  have hN : t.val < 168 := lt_of_lt_of_eq t.isLt (show cfg1.N = 168 from N_1)
  by_cases h0 : t.val % 7 = 0
  · by_cases h1 : t.val % 7 = 6
    · exfalso; omega
    · rw [show (dat1 V c).leavesExact 0 t = owns (c : Thread nD τ) (ms1_0 t) fullShare ((dat1 V c).after 0 t) from by
      unfold Dat.leavesExact; rw [liveAt1_0 t], after1_0]
      rw [show (dat1 V c).leavesExact 1 t = owns (c : Thread nD τ) (ms1_1 t) fullShare ((dat1 V c).after 1 t) from by
      unfold Dat.leavesExact; rw [liveAt1_1 t], after1_1]
      rw [Dat.leavesExact_idle (dat1 V c) 2 t (idleAt1_2_A t ((hcond1_0 t).mpr h0) (fun h => h1 ((hcond1_1 t).mp h))) (noFlush1_2_A t ((hcond1_0 t).mpr h0) (fun h => h1 ((hcond1_1 t).mp h)))]
      by_cases hz : t.val = 0
      · rw [PhiS_castSucc V c t, PhiS_zero V c _ _ hz, PhiA1_eq]
        rw [outsAt1_A V c t h0 h1]
        unfold sout1_A_0; (try dsimp only)
        iintro ⟨⟨HS0, Hg⟩, Ho, ⟨%d0, H0⟩, ⟨%d1, H1⟩, ⟨%d2, H2⟩⟩
        iapply ((kernelRun1_A c (grid1.coords t) _ _ _ _ _ _ _ _ ((hcond1_0 t).mpr h0) (fun h => h1 ((hcond1_1 t).mp h)) (iblk1 V c 0 t) (iblk1 V c 1 t)).2.2 _ Set.univ _)
        isplitl [H0]; · iexact H0
        isplitl [H1]; · iexact H1
        isplitl [H2]; · iexact H2
        isplitl [HS0]; · iexact HS0
        iintro ⟨H0, H1, H2, ⟨%es0, HS0⟩⟩
        isplitl [HS0 Hg]
        · isplitl [HS0]
          · unfold owns; iexists _; isplitr
            swap; · iexact HS0
            ipureintro; exact View.read_writes_of_cover _ _ _ _ _ (scover1_A_0 c _ _ _ _ _ _ _ _ _ _ _ _ _)
          iexact Hg
        isplitl [Ho]; · iexact Ho
        isplitl [H0]; · iexact H0
        isplitl [H1]; · iexact H1
        iexists _; iexact H2
      · rw [PhiS_castSucc V c t, PhiS_pos V c _ _ hz]
        rw [outsAt1_A V c t h0 h1]
        unfold sout1_A_0; (try dsimp only)
        iintro ⟨⟨HS0, Hg⟩, Ho, ⟨%d0, H0⟩, ⟨%d1, H1⟩, ⟨%d2, H2⟩⟩
        iapply ((kernelRun1_A c (grid1.coords t) _ _ _ _ _ _ _ _ ((hcond1_0 t).mpr h0) (fun h => h1 ((hcond1_1 t).mp h)) (iblk1 V c 0 t) (iblk1 V c 1 t)).2.2 _ Set.univ _)
        isplitl [H0]; · iexact H0
        isplitl [H1]; · iexact H1
        isplitl [H2]; · iexact H2
        isplitl [HS0]; · iexists _; iexact HS0
        iintro ⟨H0, H1, H2, ⟨%es0, HS0⟩⟩
        isplitl [HS0 Hg]
        · isplitl [HS0]
          · unfold owns; iexists _; isplitr
            swap; · iexact HS0
            ipureintro; exact View.read_writes_of_cover _ _ _ _ _ (scover1_A_0 c _ _ _ _ _ _ _ _ _ _ _ _ _)
          iexact Hg
        isplitl [Ho]; · iexact Ho
        isplitl [H0]; · iexact H0
        isplitl [H1]; · iexact H1
        iexists _; iexact H2
  · by_cases h1 : t.val % 7 = 6
    · rw [show (dat1 V c).leavesExact 0 t = owns (c : Thread nD τ) (ms1_0 t) fullShare ((dat1 V c).after 0 t) from by
      unfold Dat.leavesExact; rw [liveAt1_0 t], after1_0]
      rw [show (dat1 V c).leavesExact 1 t = owns (c : Thread nD τ) (ms1_1 t) fullShare ((dat1 V c).after 1 t) from by
      unfold Dat.leavesExact; rw [liveAt1_1 t], after1_1]
      rw [show (dat1 V c).leavesExact 2 t = owns (c : Thread nD τ) (ms1_2 t) fullShare ((dat1 V c).after 2 t) from by
      unfold Dat.leavesExact; rw [liveAt1_2_C t (fun h => h0 ((hcond1_0 t).mp h)) ((hcond1_1 t).mpr h1)], after1_2]
      by_cases hz : t.val = 0
      · exfalso; have hN : t.val < 168 := lt_of_lt_of_eq t.isLt (show cfg1.N = 168 from N_1); omega
      · rw [PhiS_castSucc V c t, PhiS_pos V c _ _ hz]
        rw [outsAt1_C V c t h0 h1]
        unfold out1_C_2 sout1_C_0; (try dsimp only)
        iintro ⟨⟨HS0, Hg⟩, Ho, ⟨%d0, H0⟩, ⟨%d1, H1⟩, ⟨%d2, H2⟩⟩
        iapply ((kernelRun1_C c (grid1.coords t) _ _ _ _ _ _ _ _ (fun h => h0 ((hcond1_0 t).mp h)) ((hcond1_1 t).mpr h1) (iblk1 V c 0 t) (iblk1 V c 1 t) _).2.2 Set.univ _)
        isplitl [H0]; · iexact H0
        isplitl [H1]; · iexact H1
        isplitl [H2]; · iexists _; iexact H2
        isplitl [HS0]; · iexact HS0
        iintro ⟨H0, H1, ⟨%e2, H2⟩, ⟨%es0, HS0⟩⟩
        isplitl [HS0 Hg]
        · isplitl [HS0]
          · unfold owns; iexists _; isplitr
            swap; · iexact HS0
            ipureintro; exact View.read_writes_of_cover _ _ _ _ _ (scover1_C_0 c _ _ _ _ _ _ _ _ _ _ _ _ _ _)
          iexact Hg
        isplitl [Ho]; · iexact Ho
        isplitl [H0]; · iexact H0
        isplitl [H1]; · iexact H1
        unfold owns; iexists _; isplitr
        swap; · iexact H2
        ipureintro; exact View.read_writes_of_cover _ _ _ _ _ (cover1_C_2 c _ _ _ _ _ _ _ _ _ _ _ _ _ _)
    · rw [show (dat1 V c).leavesExact 0 t = owns (c : Thread nD τ) (ms1_0 t) fullShare ((dat1 V c).after 0 t) from by
      unfold Dat.leavesExact; rw [liveAt1_0 t], after1_0]
      rw [show (dat1 V c).leavesExact 1 t = owns (c : Thread nD τ) (ms1_1 t) fullShare ((dat1 V c).after 1 t) from by
      unfold Dat.leavesExact; rw [liveAt1_1 t], after1_1]
      rw [Dat.leavesExact_idle (dat1 V c) 2 t (idleAt1_2_B t (fun h => h0 ((hcond1_0 t).mp h)) (fun h => h1 ((hcond1_1 t).mp h))) (noFlush1_2_B t (fun h => h0 ((hcond1_0 t).mp h)) (fun h => h1 ((hcond1_1 t).mp h)))]
      by_cases hz : t.val = 0
      · exfalso; have hN : t.val < 168 := lt_of_lt_of_eq t.isLt (show cfg1.N = 168 from N_1); omega
      · rw [PhiS_castSucc V c t, PhiS_pos V c _ _ hz]
        rw [outsAt1_B V c t h0 h1]
        unfold sout1_B_0; (try dsimp only)
        iintro ⟨⟨HS0, Hg⟩, Ho, ⟨%d0, H0⟩, ⟨%d1, H1⟩, ⟨%d2, H2⟩⟩
        iapply ((kernelRun1_B c (grid1.coords t) _ _ _ _ _ _ _ _ (fun h => h0 ((hcond1_0 t).mp h)) (fun h => h1 ((hcond1_1 t).mp h)) (iblk1 V c 0 t) (iblk1 V c 1 t) _).2.2 _ Set.univ _)
        isplitl [H0]; · iexact H0
        isplitl [H1]; · iexact H1
        isplitl [H2]; · iexact H2
        isplitl [HS0]; · iexact HS0
        iintro ⟨H0, H1, H2, ⟨%es0, HS0⟩⟩
        isplitl [HS0 Hg]
        · isplitl [HS0]
          · unfold owns; iexists _; isplitr
            swap; · iexact HS0
            ipureintro; exact View.read_writes_of_cover _ _ _ _ _ (scover1_B_0 c _ _ _ _ _ _ _ _ _ _ _ _ _ _)
          iexact Hg
        isplitl [Ho]; · iexact Ho
        isplitl [H0]; · iexact H0
        isplitl [H1]; · iexact H1
        iexists _; iexact H2

/-- The body table's row at point `t`'s slots is the body as `bodyAt1` spells it. -/
theorem defs₀_row1 (t : Fin cfg1.N) :
    defs₀ (F := F) .tc cfg1.body (cfg1.bodyArgs t (cfg1.slots t)) = bodyAt1 t := by
  unfold defs₀; rw [Defs.onTc_tc]

/-- The library's body obligation, at every point: the body's triple restated. -/
theorem body_obligation1 (c : Dev nD) : BodyObligation (dat1 (F := F) V c) (defs₀ (F := F)) Variants.none () Set.univ := fun t => by
  rw [bigSep_W1, bigSep_W1, defs₀_row1]
  exact triple_restated (sound_body1 V c t) rfl .rfl fun _ => .rfl

/-- What the launch hands the region (`ΦA`) is the invariant before the first point. -/
theorem hin1 (c : Dev nD) : Pipeline.ΦA spec1 c ⊢ (dat1 V c).Φ 0 := by
  rw [show (dat1 V c).Φ 0 = PhiS V c 0 (Nat.zero_le _) from rfl, PhiS_zero V c 0 _ rfl]
  try exact Idealize.SL.BI.Entails.refl _

/-- After any point but the first the invariant gives `ΦA` back: the carried scratch's named contents are forgotten. -/
theorem Phi_out (c : Dev nD) (t : Fin (cfg1.N + 1)) (ht : t.val ≠ 0) : (dat1 V c).Φ t ⊢ Pipeline.ΦA spec1 c := by
  rw [show (dat1 V c).Φ t = PhiS V c t.val (Nat.le_of_lt_succ t.isLt) from rfl, PhiS_pos V c _ _ ht, PhiA1_eq]
  iintro ⟨HS0, Hg⟩
  isplitl [HS0]
  · iexists _; iexact HS0
  iexact Hg

/-- The same after the last point. -/
theorem hout1 (c : Dev nD) : (dat1 V c).Φ (Fin.last cfg1.N) ⊢ Pipeline.ΦA spec1 c :=
  Phi_out V c _ (by rw [Fin.val_last]; have : cfg1.N = 168 := N_1; omega)

end Cert.KernelIdeal.Calls

end
-- ==== Proof.Calls.Dx.lean ====
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp

@[expose] public section

/-! The third call (`dx`) from any contents of the buffers: what its body computes and what each point leaves. -/

-- membership in a rectangle with long axes: the elaborator recurses once per coordinate
set_option maxRecDepth 16384

noncomputable section

namespace Cert.KernelIdeal.Calls

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the call is entered
variable (V : (c : Dev nD) → (b : Ref sig .tc) → Buf (Elt F) ((c : Thread nD τ).loc b))

/-! ## The windows' blocks -/

/-- Window `w`'s block at point `t`, read off its array as the region finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not, for ANY proof
    data whose array is `V`'s (`hA`) and whose body leaves the block in place (`hafter`), by
    `Dat.before_in_eq_fetched` (unfetched, the index has not moved), the window uncut and never idle. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
/-- Input window 1's current staging buffer holds its block at every point, fetched there or not, for ANY proof
    data whose array is `V`'s (`hA`) and whose body leaves the block in place (`hafter`), by
    `Dat.before_in_eq_fetched` (unfetched, the index has not moved), the window uncut and never idle. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses -/

abbrev r2_0 : Rect S2048x5120 := Rect.unit (s := S2048x5120) ![0, 0] S2048x5120.size inb_S2048x5120_S2048x5120_0_0
abbrev r2_1 : Rect S5120x512 := Rect.unit (s := S5120x512) ![0, 0] S5120x512.size inb_S5120x512_S5120x512_0_0
abbrev r2_2 : Rect S2048x512 := Rect.unit (s := S2048x512) ![0, 0] S2048x512.size inb_S2048x512_S2048x512_0_0

/-! ## What the body leaves in each output window's buffer -/

/-- Window 2's staging buffer after the body, from the input windows' blocks: its 1 store as pieces, LAST
    FIRST. -/
def out2_2 (x0 : Vec F S2048x5120 .bf16) (x1 : Vec F S5120x512 .bf16) : Vec F S2048x512 .bf16 :=
  View.canon [⟨r2_2, k2_pay1 (View.ld x0 r2_0) (View.ld x1 r2_1)⟩]

/-- Its stores tile the buffer (checked by evaluation), so they cover it. -/
theorem cover2_2 (p0 : Vec F S2048x512 .bf16) (y : S2048x512.Idx) :
    ∃ pc ∈ ([⟨r2_2, p0⟩] : List (View.Piece (Elt F) S2048x512 .bf16)), y ∈ pc.1.set :=
  View.cover_of_tiled [⟨r2_2, p0⟩] S2048x512.size (by rfl) y

/-! ## The body's triple -/

set_option maxHeartbeats 1000000 in
/-- The kernel body on whole staging memrefs, the inputs' at read contents `xW` and the outputs' at anything, runs to
    the continuation holding the inputs' as they were and each output's at `out2_W` of the inputs': the printed functions
    are their skeletons (`Gen.*_eq_skeleton`), which `sl_exec` runs, through every part call. -/
theorem sound_kernel2 (c : Dev nD) (E : Set ℕ) (i : grid2.Coords) (arg2 : Memref sig .tc .vmem S2048x5120 .bf16) (harg2 : arg2.IsWhole) (arg3 : Memref sig .tc .vmem S5120x512 .bf16) (harg3 : arg3.IsWhole) (arg4 : Memref sig .tc .vmem S2048x512 .bf16) (harg4 : arg4.IsWhole)
    (x0 : Vec F S2048x5120 .bf16) (x1 : Vec F S5120x512 .bf16) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1 ∗ owns (c : Thread nD τ) arg4 fullShare (out2_2 x0 x1)) -∗ K ⟨⟩))
      ⊢ wp frame (wpE (defs₀ (F := F)) Variants.none c none) E (cc2_dx i arg2 harg2 arg3 harg3 arg4 harg4) K := by
  simp only [cc2_dx_eq_skeleton]; unfold cc2_dx_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover2_2 _)

/-! ## The pipeline's proof data -/

/-- The proof data of pipeline 2 on core `c`: the arrays as the region finds them (`V`); after the body at
    point `t` each input's buffer at its block and each output's at `out2_W` of the input blocks; the invariant the
    class's; nothing owed;
    full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2_2 (iblk2 V c 0 t) (iblk2 V c 1 t)
  Φ _ := Pipeline.ΦA spec2 c
  q _ := fullShare
  owed _ := 0

/-- The proof data's arrays are the region-entry contents, by projecting the definition (`dsimp`): a region record cites
    this for its arrays rather than have Lean unfold `V`, the fold through @main up to the region's entry. -/
theorem A_eq2 (c : Dev nD) (w : Fin cfg2.W) : (dat2 V c).A w = V c (Pipeline.arrRef spec2 w) := by
  dsimp only [dat2]

/-- What the body leaves, window by window (the proof data's `match` reduced by `dsimp`). -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = out2_2 (iblk2 V c 0 t) (iblk2 V c 1 t) := by dsimp only [dat2]

/-- Each input's current staging buffer holds its block at every point, fetched there or not (`beforeK_W_of`). -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-! ## The body obligation, at a generic point -/

/-- What the body is called with at point `t`, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t))

/-- The body at any point: the inputs' memrefs hold their blocks (`before2_W`), so `sound_kernel2` applies; the invariant and
    the core's `owes` pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2]
  iintro ⟨HΦ, Ho, ⟨%d0, H0⟩, ⟨%d1, H1⟩, ⟨%d2, H2⟩⟩
  iapply (sound_kernel2 c Set.univ (grid2.coords t) _ _ _ _ _ _ (iblk2 V c 0 t) (iblk2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body table's row at point `t`'s slots is the body as `bodyAt2` spells it. -/
theorem defs₀_row2 (t : Fin cfg2.N) :
    defs₀ (F := F) .tc cfg2.body (cfg2.bodyArgs t (cfg2.slots t)) = bodyAt2 t := by
  unfold defs₀; rw [Defs.onTc_tc]

/-- The library's body obligation, at every point: the body's triple restated. -/
theorem body_obligation2 (c : Dev nD) : BodyObligation (dat2 (F := F) V c) (defs₀ (F := F)) Variants.none () Set.univ := fun t => by
  rw [bigSep_W2, bigSep_W2, defs₀_row2]
  exact triple_restated (sound_body2 V c t) rfl .rfl fun _ => .rfl

end Cert.KernelIdeal.Calls

end
-- ==== Proof.Whole.lean ====
module

public import proofs.«01_k».proof.Proof.Calls.Dw
public import proofs.«01_k».proof.Proof.Calls.YPoints
public import proofs.«01_k».proof.Proof.Calls.Dx
public import Idealize.ShloMosaic.Lib.Pipeline.RegionsLoop
public import Idealize.ShloMosaic.Lib.Pipeline.FrameSuffix

@[expose] public section

/-! The whole kernel: its host reshapes and its three calls run one after another, each from the buffers the one before
left. What every buffer holds at the end, and that the arguments end as they began. -/

-- membership in a rectangle with long axes: the elaborator recurses once per coordinate
set_option maxRecDepth 16384

noncomputable section

namespace Cert.KernelIdeal.Calls

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host stretches -/

/-- No operation of `hostOps0` allocates a buffer. -/
theorem hostOps0_fresh : (hostOps0 : List (HloOp τ sig (Elt F))).Forall fun op => op.fresh = ∅ := by
  simp only [List.Forall]; repeat' constructor
/-- The reference each operation of `hostOps0` writes, in order. -/
abbrev hostOps0_W : List (Ref sig .tc) := [main_v0, main_v1]
theorem hostOps0_writes : (hostOps0 : List (HloOp τ sig (Elt F))).Forall fun op => op.writes ⊆ (hostOps0_W.map (Proc.devRef (τ := τ) .tc)).toFinset :=
  StableHlo.forall_writes_sub_of_map rfl
/-- No operation of `hostOps3` allocates a buffer. -/
theorem hostOps3_fresh : (hostOps3 : List (HloOp τ sig (Elt F))).Forall fun op => op.fresh = ∅ := by
  simp only [List.Forall]; repeat' constructor
/-- The reference each operation of `hostOps3` writes, in order. -/
abbrev hostOps3_W : List (Ref sig .tc) := [main_v5, main_v6, main_v7]
theorem hostOps3_writes : (hostOps3 : List (HloOp τ sig (Elt F))).Forall fun op => op.writes ⊆ (hostOps3_W.map (Proc.devRef (τ := τ) .tc)).toFinset :=
  StableHlo.forall_writes_sub_of_map rfl

/-! ## A call's effect on the buffers -/

/-- A valuation of the buffers on every core. -/
abbrev Vals (F : FTy → Type) : Type := Dev nD → Valuation τ sig (Elt F)

/-- A valuation read at the TensorCore's references. -/
abbrev Vals.at (W : Vals F) : (c : Dev nD) → (b : Ref sig .tc) → Buf (Elt F) ((c : Thread nD τ).loc b) := fun c b => W c b

/-- The buffers after a call with windows `cfg`, entered at `W`: its windows' arrays as its write-backs leave them, every
    other buffer as it was. -/
def leaves (cfg : Cfg sig Λ₀) (dat : (c : Dev nD) → Dat τ (Elt F) Unit ℕ (UR sig nD τ) ℕ cfg c) (W : Vals F) : Vals F :=
  fun c => Pipeline.withArrays cfg.spec c (W c) fun w => (dat c).arrAt w cfg.N

section Leaves
variable {cfg : Cfg sig Λ₀} (dat : (c : Dev nD) → Dat τ (Elt F) Unit ℕ (UR sig nD τ) ℕ cfg c) (W : Vals F)
  (inj : Function.Injective (Pipeline.arrRef cfg.spec))

include inj in
/-- A window's array afterwards. -/
theorem leaves_arr (c : Dev nD) (w : Fin cfg.W) :
    leaves cfg dat W c (Proc.devRef .tc (Pipeline.arrRef cfg.spec w)) = (dat c).arrAt w cfg.N := by
  unfold leaves; exact Pipeline.withArrays_arr cfg.spec inj c _ _ w

/-- A buffer that is no window's array is left as it was. -/
theorem leaves_of_ne (c : Dev nD) (b : Ref sig .tc) (hb : ∀ w, Pipeline.arrRef cfg.spec w ≠ b) :
    leaves cfg dat W c (Proc.devRef .tc b) = W c (Proc.devRef .tc b) := by
  unfold leaves; exact Pipeline.withArrays_of_ne cfg.spec c _ _ b hb

include inj in
/-- A buffer that is no output window's array is left as it was. -/
theorem leaves_of (hA : ∀ c w, (dat c).A w = W.at c (Pipeline.arrRef cfg.spec w)) (c : Dev nD) (r : Ref sig .tc)
    (h : ∀ w : Fin cfg.W, Pipeline.arrRef cfg.spec w = r → (cfg.win w).isOut = false) :
    leaves cfg dat W c (Proc.devRef .tc r) = W c (Proc.devRef .tc r) := by
  by_cases hw : ∃ w : Fin cfg.W, Pipeline.arrRef cfg.spec w = r
  · obtain ⟨w, rfl⟩ := hw
    exact (leaves_arr dat W inj c w).trans (((dat c).arrAt_in w (h w rfl) _).trans (hA c w))
  · exact leaves_of_ne dat W c r fun w e => hw ⟨w, e⟩
end Leaves

/-! ## The buffers from the launch to the return -/

/-- At launch. -/
abbrev W0 : Vals F := fun c b => (s₀ m ρ).mem ((c : Dev nD), b)
/-- With `x` and `g` flattened to rows of tokens. -/
abbrev W1 : Vals F := fun c => StableHlo.after hostOps0 (W0 m ρ c)
/-- After the first call (`dw` and the quantised weight). -/
def W2 : Vals F := leaves cfg0 (dat0 (W1 m ρ).at) (W1 m ρ)
/-- After the second call (`y`). -/
def W3 : Vals F := leaves cfg1 (dat1 (W2 m ρ).at) (W2 m ρ)
/-- After the third call (`dx`). -/
def W4 : Vals F := leaves cfg2 (dat2 (W3 m ρ).at) (W3 m ρ)
/-- At the return, with the results in their final shapes. -/
abbrev W5 : Vals F := fun c => StableHlo.after hostOps3 (W4 m ρ c)

/-- A reference the flattening does not write keeps its contents across it. -/
theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
/-- A reference that is no result of the first call keeps its contents across it. -/
theorem W2_of (c : Dev nD) (r : Ref sig .tc) (h : ∀ w : Fin cfg0.W, Pipeline.arrRef spec0 w = r → (cfg0.win w).isOut = false) :
    W2 m ρ c (Proc.devRef .tc r) = W1 m ρ c (Proc.devRef .tc r) :=
  leaves_of _ _ launch0.win.arr_inj (A_eq0 _) c r h
/-- A reference that is no result of the second call keeps its contents across it. -/
theorem W3_of (c : Dev nD) (r : Ref sig .tc) (h : ∀ w : Fin cfg1.W, Pipeline.arrRef spec1 w = r → (cfg1.win w).isOut = false) :
    W3 m ρ c (Proc.devRef .tc r) = W2 m ρ c (Proc.devRef .tc r) :=
  leaves_of _ _ launch1.win.arr_inj (A_eq1 _) c r h
/-- A reference that is no result of the third call keeps its contents across it. -/
theorem W4_of (c : Dev nD) (r : Ref sig .tc) (h : ∀ w : Fin cfg2.W, Pipeline.arrRef spec2 w = r → (cfg2.win w).isOut = false) :
    W4 m ρ c (Proc.devRef .tc r) = W3 m ρ c (Proc.devRef .tc r) :=
  leaves_of _ _ launch2.win.arr_inj (A_eq2 _) c r h
/-- A reference the last reshapes do not write keeps its contents across them. -/
theorem W5_of (c : Dev nD) (r : Ref sig .tc) (h : r ∉ hostOps3_W) : W5 m ρ c (Proc.devRef .tc r) = W4 m ρ c (Proc.devRef .tc r) :=
  StableHlo.after_of_writes_sub hostOps3 _ hostOps3_writes h

/-- A reference that nothing in the kernel writes. -/
def Untouched (r : Ref sig .tc) : Prop :=
  r ∉ hostOps0_W ∧ (∀ w : Fin cfg0.W, Pipeline.arrRef spec0 w = r → (cfg0.win w).isOut = false)
    ∧ (∀ w : Fin cfg1.W, Pipeline.arrRef spec1 w = r → (cfg1.win w).isOut = false)
    ∧ (∀ w : Fin cfg2.W, Pipeline.arrRef spec2 w = r → (cfg2.win w).isOut = false) ∧ r ∉ hostOps3_W

instance (r : Ref sig .tc) : Decidable (Untouched r) := by unfold Untouched; infer_instance

/-- Such a reference ends as launched. -/
theorem W5_untouched (c : Dev nD) (r : Ref sig .tc) (h : Untouched r) :
    W5 m ρ c (Proc.devRef .tc r) = m ((c : Thread nD τ).loc r) :=
  (W5_of m ρ c r h.2.2.2.2).trans <| (W4_of m ρ c r h.2.2.2.1).trans <| (W3_of m ρ c r h.2.2.1).trans <|
    (W2_of m ρ c r h.2.1).trans (W1_of m ρ c r h.1)

/-! ## The calls as segments of the run -/

/-- The prefetched tables' admissible contents: no pipeline has a table. -/
abbrev adm : (p : Fin 3) → (pcfgs (F := F) p).Adm := fun p => (cfgs p).toPCfg_adm
/-- Every call's proof data, each at the contents it is entered from. -/
def pdats : (p : Fin 3) → (c : Dev nD) → Dat τ (Elt F) Unit ℕ (UR sig nD τ) ℕ (Pipeline.pin (pcfgs (F := F)) adm p) c
  | ⟨0, _⟩ => fun c => dat0 (W1 m ρ).at c
  | ⟨1, _⟩ => fun c => dat1 (W2 m ρ).at c
  | ⟨2, _⟩ => fun c => dat2 (W3 m ρ).at c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its `owes`, at
    nothing. -/
abbrev R (c : Dev nD) : sProp 𝕄 := iprop((∃ r, prngReg c r) ∗ ∃ W, owes (c : Thread nD τ) (0 : CellTallies nD τ sig Unit) W)
/-- A host stretch as a segment from the contents `W`, `R` riding along. -/
abbrev hseg (ops : List (HloOp τ sig (Elt F))) (hsub : ops.Forall fun op => op.bufs ⊆ StableHlo.tcRefs τ sig)
    (hfresh : ops.Forall fun op => op.fresh = ∅) (W : Vals F) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The generator register and the scoped buffers beside the staging make up a call's invariant. -/
theorem into_inv (p : Fin 3) (c : Dev nD) (Q : sProp 𝕄) :
    iprop((∃ r, prngReg c r) ∗ Q ∗ Pipeline.scopedRest (cfgs p).spec c) ⊢ (Pipeline.ΦA (cfgs p).spec c : sProp 𝕄) := by
  unfold Pipeline.ΦA
  iintro ⟨Hp, -, Hr⟩
  isplitl [Hr]; · iexact Hr
  iexact Hp
/-- The invariant given back in its two parts. -/
theorem out_of_inv (p : Fin 3) (c : Dev nD) :
    (Pipeline.ΦA (cfgs p).spec c : sProp 𝕄) ⊢ iprop((∃ r, prngReg c r) ∗ BI.emp ∗ Pipeline.scopedRest (cfgs p).spec c) := by
  unfold Pipeline.ΦA
  iintro ⟨Hr, Hp⟩
  isplitl [Hp]; · iexact Hp
  isplitr; · iempintro
  iexact Hr

-- `iapply` of a library lemma stated over `pin pcs a p` unifies with the pinned configuration only when unification may
-- unfold plain definitions in a metavariable's type
set_option backward.isDefEq.respectTransparency.types false in
/-- A call as a segment: entered from every unscoped buffer at `W`, left at what it `leaves`. Its arrays are split out of
    the unscoped buffers and put back; the generator register goes into the call's invariant and comes out; nothing is
    owed. -/
def callSeg (p : Fin 3) (launch : Pipeline.LaunchFacts (nD := nD) (τ := τ) cfgs p) (W : Vals F)
    (hbody : ∀ c, BodyObligation (pdats m ρ p c) (defs₀ (F := F)) Variants.none () Set.univ)
    (hA : ∀ c w, (pdats m ρ p c).A w = W.at c (Pipeline.arrRef (cfgs p).spec w))
    (hq : ∀ c w, (pdats m ρ p c).q w = fullShare)
    (howed : ∀ c t, (pdats m ρ p c).owed t = 0) (hrec : ∀ c t, (pdats m ρ p c).recorded t = Set.univ)
    (hin : ∀ c, (Pipeline.ΦA (cfgs p).spec c : sProp 𝕄) ⊢ (pdats m ρ p c).Φ 0)
    (hout : ∀ c, (pdats m ρ p c).Φ (Fin.last _) ⊢ (Pipeline.ΦA (cfgs p).spec c : sProp 𝕄)) :
    Pipeline.RegionSeg (pcfgs (F := F)) adm (pdats m ρ) () defs₀ 𝒱₀ L lv p where
  win := launch.win.to₀
  block_pos := launch.block_pos
  stage_whole := launch.stage_whole
  K := PEmpty
  osem k := k.elim
  ho := Pipeline.OwnSemFacts.none _
  hbody c := (hbody c).loose
  hwaits := Pipeline.hwaits_of_owed_zero _ _ _ _ L lv p howed
  pre c := iprop(StableHlo.held (c : Thread nD τ) (Pipeline.ucRefs τ sig) (W c) ∗ R c)
  post c := iprop(StableHlo.held (c : Thread nD τ) (Pipeline.ucRefs τ sig) (leaves (cfgs p) (pdats m ρ p) W c) ∗ R c)
  X c := iprop(∃ r, prngReg c r)
  Y c := iprop(∃ r, prngReg c r)
  Z c := Pipeline.unscopedRest (Ix := Unit) (Name := ℕ) (U := UR sig nD τ) (Lvl := ℕ) (cfgs p).spec c (W.at c)
  hentry c := by
    rw [Pipeline.ownSems0_none]
    have hsplit := Pipeline.arrays_of_unscopedBufs (p := p) (pcfgs (F := F)) adm (pdats m ρ) launch.win launch.arr_whole c
      ((pdats m ρ p c).share_full (hq c)) (W.at c) (hA c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [howed c 0]
      icases HO with ⟨%W, HO⟩; iexists W; isplitr
      · ipureintro; exact fun _ _ => Or.inl (by rw [hrec c 0]; trivial)
      iexact HO
    isplitl [Hp]; · iexact Hp
    iexact Hrest
  hin c := by
    exact (into_inv p c _).trans (hin c)
  hout c := by
    rw [Pipeline.ownSems0_none]
    exact (hout c).trans (out_of_inv p c)
  hexit c := by
    have hjoin := Pipeline.unscopedBufs_of_arrays (p := p) (pcfgs (F := F)) adm (Ix := Unit) (Name := ℕ) (U := UR sig nD τ) (Lvl := ℕ)
      launch.win launch.arr_whole c (pdats m ρ) ((pdats m ρ p c).share_full (hq c))
      (W.at c) ((leaves (cfgs p) (pdats m ρ p) W).at c) ((pdats m ρ p c).arrAt · (cfgs p).N)
      (fun w => (leaves_arr (pdats m ρ p) W launch.win.arr_inj c w).symm)
      (fun b hb => leaves_of_ne (pdats m ρ p) W c b fun w e => hb (Finset.mem_image.mpr ⟨w, Finset.mem_univ _, e⟩))
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [howed c (Fin.last _)]
    icases HO with ⟨%W, -, HO⟩; iexists W; iexact HO

/-- The first call. -/
def seg0 : Pipeline.RegionSeg (pcfgs (F := F)) adm (pdats m ρ) () defs₀ 𝒱₀ L lv 0 :=
  callSeg m ρ 0 launch0 (W1 m ρ) (body_obligation0 _) (A_eq0 _) (fun _ _ => rfl) (fun _ _ => rfl) (fun _ _ => rfl)
    (fun _ => .rfl) (fun _ => .rfl)
/-- The second call. -/
def seg1 : Pipeline.RegionSeg (pcfgs (F := F)) adm (pdats m ρ) () defs₀ 𝒱₀ L lv 1 :=
  callSeg m ρ 1 launch1 (W2 m ρ) (body_obligation1 _) (A_eq1 _) (fun _ _ => rfl) (fun _ _ => rfl) (fun _ _ => rfl)
    (hin1 _) (hout1 _)
/-- The third call. -/
def seg2 : Pipeline.RegionSeg (pcfgs (F := F)) adm (pdats m ρ) () defs₀ 𝒱₀ L lv 2 :=
  callSeg m ρ 2 launch2 (W3 m ρ) (body_obligation2 _) (A_eq2 _) (fun _ _ => rfl) (fun _ _ => rfl) (fun _ _ => rfl)
    (fun _ => .rfl) (fun _ => .rfl)

/-! ## The run -/

/-- The kernel's five segments in order. -/
abbrev segs : List (Pipeline.Seg (pcfgs (F := F)) adm (pdats m ρ) () defs₀ 𝒱₀ L lv) :=
  [ .host (hseg hostOps0 hostOps0_sub hostOps0_fresh (W0 m ρ)),
    .region (seg0 m ρ), .region (seg1 m ρ), .region (seg2 m ρ),
    .host (hseg hostOps3 hostOps3_sub hostOps3_fresh (W4 m ρ)) ]
/-- The program is the run of the segments. -/
theorem main_run (c : Dev nD) : main (F := F) c = Pipeline.Seg.run (segs m ρ) := (main_chain c).trans (by chain_rfl)

/-- The last thread state without the `owes`: every unscoped buffer at its final contents, the generator register at some
    state. -/
abbrev Tₙ (c : Dev nD) : sProp 𝕄 := iprop(StableHlo.held (c : Thread nD τ) (Pipeline.ucRefs τ sig) (W5 m ρ c) ∗ ∃ r, prngReg c r)

/-- The TensorCore has no unscoped semaphore. -/
theorem no_unscoped : ∀ sm : SemLoc sig, sm.isScoped .tc = true := by decide

-- `θ_run_regions_kit_sems`'s implicit arguments are found by unifying its conclusion with this one, which takes unfolding
-- plain definitions in a metavariable's type
set_option backward.isDefEq.respectTransparency.types false in
/-- The run: from any memory with zero counters every weakly fair execution terminates, nothing faulting, and every final
    state has every unscoped buffer at `W5` and every semaphore counter at zero. -/
theorem run : θ_run defs (onTc (τ := τ) (main (F := F))) ⟨m, fun _ => 0, ρ⟩ (fun r =>
      (∀ c : Dev nD, ∀ b : Ref sig .tc, ¬ (Proc.devRef .tc b : DevRef τ sig).isScoped →
        r.2.mem ((c.tc : Thread nD τ).loc b) = W5 m ρ c (Proc.devRef .tc b))
      ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h hz => ⟨fun c b hb => h c _ (mem_uc b hb), funext fun g => hz g (.inr (no_unscoped g.2))⟩)

/-- The frame: the three arguments end as launched, and every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun r h => ⟨fun c =>
    ⟨(h.1 c main_arg0 (by decide)).trans (W5_untouched m ρ c main_arg0 (by decide)),
     (h.1 c main_arg1 (by decide)).trans (W5_untouched m ρ c main_arg1 (by decide)),
     (h.1 c main_arg2 (by decide)).trans (W5_untouched m ρ c main_arg2 (by decide))⟩, h.2⟩) (run m ρ)

end Cert.KernelIdeal.Calls

end
-- ==== Proof.YValue.lean ====
/- What the second call leaves in its result: the forward product as a sum over the inputs. -/
module

public import proofs.«01_k».proof.Proof.Calls.YPoints
public import proofs.«01_k».proof.Proof.Products

@[expose] public section

set_option maxRecDepth 16384

noncomputable section

namespace Cert.KernelIdeal.YVal

open Cert.KernelIdeal Cert.KernelIdeal.Gen Cert.KernelIdeal.Calls Idealize.ShloMosaic Idealize.ShloMosaic.TcCoe Idealize.SL.Sem
open Idealize.ShloMosaic.Pipeline (Dat)
open Cert.Products

-- the TensorCore's buffer contents when the call is entered
variable (V : (c : Dev nD) → (b : Ref sig .tc) → Buf (Elt Ideal) ((c : Thread nD τ).loc b))

/-- The windows' block indices at a grid point: 7 steps over the inputs for each of the 6 by 4 blocks of the result. -/
theorem idx : ∀ t : Fin cfg1.N, win1_0.index t = ![t.val / 28, t.val % 7] ∧ win1_1.index t = ![t.val / 7 % 4, t.val % 7]
    ∧ win1_2.index t = ![t.val / 28, t.val / 7 % 4] :=
  (by decide +kernel : ∀ t : Fin grid1.N, _)

/-- The accumulator starts at zero. -/
theorem hzero (j) : k1_pay1 (F := Ideal) j = 0 := by pointwise [k1_pay1]

/-- One step adds the product over its 2560 inputs. -/
theorem hpay (acc x w j) : k1_pay2 (F := Ideal) acc x w j
    = acc j + ∑ k : Fin 2560, x (ix2 (j 0) k) * w (ix2 (j 1) k) := by pointwise [k1_pay2]

/-- The accumulator read back is what the step before left in it. -/
theorem scratch_read (v : Vec Ideal S1024x1280 .f32) :
    (scM1_0 : Memref sig .tc .vmem S1024x1280 .f32).view.read (Elt Ideal) ((Memref.isWhole_whole _ : scM1_0.IsWhole).unread v) = v :=
  (Memref.isWhole_whole _ : scM1_0.IsWhole).read_unread v

/-- What the accumulator holds at the last step of a block: the sum of the steps' products. -/
theorem acc_last (c : Dev nD) (t : Fin cfg1.N) (ht : t.val % 7 = 7 - 1) (j) :
    (outsAt1 V c t.val t.isLt).2 j = prodY (V c main_v0) (V c main_v2_3) (((cfg1.win 2).blk t).view.emb j) := by
  rw [Pipeline.eq_sum_fin_of_reset_step_apply_of_flush (fun n h => (outsAt1 V c n h).2) 7 (fun _ => 0) _
    (fun t h j => by rw [outsAt1_A V c t h (by omega)]; frame_out; rw [hpay, hzero])
    (fun t h j => by
      by_cases h6 : t.val % 7 = 6
      · rw [outsAt1_C V c t h h6]; frame_out; rw [hpay]; exact congrArg (· + _) (congrFun (scratch_read _) j)
      · rw [outsAt1_B V c t h h6]; frame_out; rw [hpay]; exact congrArg (· + _) (congrFun (scratch_read _) j))
    t ht _, zero_add]
  unfold prodY
  refine Fin.sum_mul_add_congr fun s k hl => ?_
  blk_point [iblk1, idx t, idx ⟨_, Pipeline.run_point_lt_of_flush t ht s⟩]

/-- The result array after the run. -/
theorem final (c : Dev nD) : (dat1 V c).arrAt 2 cfg1.N = prodY (V c main_v0) (V c main_v2_3) := by
  refine (dat1 V c).arrAt_eq_of_covers 2 _ (by decide +kernel) fun t hf y => ?_
  have ht : t.val % 7 = 6 := (flush1_2 t).mp hf
  blk_simp
  rw [← acc_last V c t ht, after1_2, outsAt1_C V c t (by omega) ht]; frame_out
  rfl

end Cert.KernelIdeal.YVal

end
-- ==== Proof.DxValue.lean ====
/- What the third call leaves in its result: the input gradient as a sum over the outputs. -/
module

public import proofs.«01_k».proof.Proof.Calls.Dx
public import proofs.«01_k».proof.Proof.Products

@[expose] public section

set_option maxRecDepth 16384

noncomputable section

namespace Cert.KernelIdeal.DxVal

open Cert.KernelIdeal Cert.KernelIdeal.Gen Cert.KernelIdeal.Calls Idealize.ShloMosaic Idealize.ShloMosaic.TcCoe Idealize.SL.Sem
open Idealize.ShloMosaic.Pipeline (Dat)
open Cert.Products

-- the TensorCore's buffer contents when the call is entered
variable (V : (c : Dev nD) → (b : Ref sig .tc) → Buf (Elt Ideal) ((c : Thread nD τ).loc b))

/-- The windows' block indices at a grid point: 35 column blocks for each of the 3 row blocks. -/
theorem idx : ∀ t : Fin cfg2.N, win2_0.index t = ![t.val / 35, 0] ∧ win2_1.index t = ![0, t.val % 35]
    ∧ win2_2.index t = ![t.val / 35, t.val % 35] :=
  (by decide +kernel : ∀ t : Fin grid2.N, _)

/-- What a point stores, read at an index of the block, is the product at the place of the array it goes to. -/
theorem point (c : Dev nD) (t : Fin cfg2.N) (y) : k2_pay1 (F := Ideal) (iblk2 V c 0 t) (iblk2 V c 1 t) y
    = prodDx (V c main_v1) (V c main_v2_3) (((cfg2.win 2).blk t).view.emb y) := by
  pointwise [k2_pay1, prodDx]
  blk_point [iblk2, idx t]

/-- The result array after the run. -/
theorem final (c : Dev nD) : (dat2 V c).arrAt 2 cfg2.N = prodDx (V c main_v1) (V c main_v2_3) := by
  refine (dat2 V c).arrAt_eq_of_covers 2 _ (by decide +kernel) fun t _ y => ?_
  blk_simp
  rw [after2_2]; frame_out
  exact point V c t y

end Cert.KernelIdeal.DxVal

end
-- ==== Proof.Final.lean ====
/- What the kernel's five results hold at the end, as functions of the three arguments. -/
module

public import proofs.«01_k».proof.Proof.Whole
public import proofs.«01_k».proof.Proof.DwValue
public import proofs.«01_k».proof.Proof.YValue
public import proofs.«01_k».proof.Proof.DxValue

@[expose] public section

set_option maxRecDepth 16384

noncomputable section

namespace Cert.KernelIdeal.Final

open Cert.KernelIdeal Cert.KernelIdeal.Gen Cert.KernelIdeal.Calls Idealize.ShloMosaic Idealize.ShloMosaic.TcCoe Idealize.SL.Sem
open Cert.Products
open Cert.Quant (kcodes kscales kweights)

variable (m : (ℓ : Loc nD τ sig) → Buf (Elt Ideal) ℓ) (ρ : Dev nD → PrngReg) (c : Dev nD)

/-- The activations, one row per token. -/
def x : FVec Ideal SX .bf16 := shapeCast S6144x17920 (m ((c : Thread nD τ).loc main_arg0)) shapeCasts_S3x2048x17920_S6144x17920
/-- The gradient at the output, one row per token. -/
def g : FVec Ideal SG .bf16 := shapeCast S6144x5120 (m ((c : Thread nD τ).loc main_arg2)) shapeCasts_S3x2048x5120_S6144x5120
/-- The weights. -/
def w : FVec Ideal SW .f32 := m ((c : Thread nD τ).loc main_arg1)

/-! ## What the reshapes write, from any contents before them -/

section Reshapes
open StableHlo (after)
variable (W : Valuation τ sig (Elt Ideal))

theorem after0_v0 : after hostOps0 W (Proc.devRef .tc main_v0) = shapeCast S6144x17920 (W (Proc.devRef .tc main_arg0)) shapeCasts_S3x2048x17920_S6144x17920 := by
  unfold hostOps0; after_results <;> rfl
theorem after0_v1 : after hostOps0 W (Proc.devRef .tc main_v1) = shapeCast S6144x5120 (W (Proc.devRef .tc main_arg2)) shapeCasts_S3x2048x5120_S6144x5120 := by
  unfold hostOps0; after_results <;> rfl
theorem after3_v5 : after hostOps3 W (Proc.devRef .tc main_v5) = shapeCast S3x2048x5120 (W (Proc.devRef .tc main_v3)) shapeCasts_S6144x5120_S3x2048x5120 := by
  unfold hostOps3; after_results <;> rfl
theorem after3_v6 : after hostOps3 W (Proc.devRef .tc main_v6) = shapeCast S3x2048x17920 (W (Proc.devRef .tc main_v4)) shapeCasts_S6144x17920_S3x2048x17920 := by
  unfold hostOps3; after_results <;> rfl
theorem after3_v7 : after hostOps3 W (Proc.devRef .tc main_v7) = shapeCast S5120 (W (Proc.devRef .tc main_v2_2)) shapeCasts_S5120x1_S5120 := by
  unfold hostOps3; after_results <;> rfl
end Reshapes

/-! ## What the calls read -/

theorem W1_x : W1 m ρ c (Proc.devRef .tc main_v0) = x m c := after0_v0 _
theorem W1_g : W1 m ρ c (Proc.devRef .tc main_v1) = g m c := after0_v1 _
theorem W1_w : W1 m ρ c (Proc.devRef .tc main_arg1) = w m c := W1_of m ρ c main_arg1 (by decide)

theorem W2_x : W2 m ρ c (Proc.devRef .tc main_v0) = x m c := (W2_of m ρ c main_v0 (by decide)).trans (W1_x m ρ c)
theorem W2_g : W2 m ρ c (Proc.devRef .tc main_v1) = g m c := (W2_of m ρ c main_v1 (by decide)).trans (W1_g m ρ c)
theorem W3_g : W3 m ρ c (Proc.devRef .tc main_v1) = g m c := (W3_of m ρ c main_v1 (by decide)).trans (W2_g m ρ c)

/-! ## What the first call leaves -/

theorem W2_dw : W2 m ρ c (Proc.devRef .tc main_v2_0) = prodDw (g m c) (x m c) :=
  (leaves_arr _ _ launch0.win.arr_inj c 3).trans <| (DwVal.final_dw (W1 m ρ).at c).trans (congrArg₂ prodDw (W1_g m ρ c) (W1_x m ρ c))
theorem W2_codes : W2 m ρ c (Proc.devRef .tc main_v2_1) = kcodes (w m c) :=
  (leaves_arr _ _ launch0.win.arr_inj c 4).trans <| (DwVal.final_codes (W1 m ρ).at c).trans (congrArg kcodes (W1_w m ρ c))
theorem W2_scales : W2 m ρ c (Proc.devRef .tc main_v2_2) = kscales (w m c) :=
  (leaves_arr _ _ launch0.win.arr_inj c 5).trans <| (DwVal.final_scales (W1 m ρ).at c).trans (congrArg kscales (W1_w m ρ c))
theorem W2_weights : W2 m ρ c (Proc.devRef .tc main_v2_3) = kweights (w m c) :=
  (leaves_arr _ _ launch0.win.arr_inj c 6).trans <| (DwVal.final_weights (W1 m ρ).at c).trans (congrArg kweights (W1_w m ρ c))
theorem W3_weights : W3 m ρ c (Proc.devRef .tc main_v2_3) = kweights (w m c) :=
  (W3_of m ρ c main_v2_3 (by decide)).trans (W2_weights m ρ c)

/-! ## What the second and third calls leave -/

theorem W3_y : W3 m ρ c (Proc.devRef .tc main_v3) = prodY (x m c) (kweights (w m c)) :=
  (leaves_arr _ _ launch1.win.arr_inj c 2).trans <| (YVal.final (W2 m ρ).at c).trans (congrArg₂ prodY (W2_x m ρ c) (W2_weights m ρ c))
theorem W4_y : W4 m ρ c (Proc.devRef .tc main_v3) = prodY (x m c) (kweights (w m c)) :=
  (W4_of m ρ c main_v3 (by decide)).trans (W3_y m ρ c)
theorem W4_dx : W4 m ρ c (Proc.devRef .tc main_v4) = prodDx (g m c) (kweights (w m c)) :=
  (leaves_arr _ _ launch2.win.arr_inj c 2).trans <| (DxVal.final (W3 m ρ).at c).trans (congrArg₂ prodDx (W3_g m ρ c) (W3_weights m ρ c))
theorem W4_scales : W4 m ρ c (Proc.devRef .tc main_v2_2) = kscales (w m c) :=
  (W4_of m ρ c main_v2_2 (by decide)).trans <| (W3_of m ρ c main_v2_2 (by decide)).trans (W2_scales m ρ c)

/-! ## The five results -/

/-- The output. -/
theorem y : W5 m ρ c (Proc.devRef .tc main_v5) = shapeCast S3x2048x5120 (prodY (x m c) (kweights (w m c))) shapeCasts_S6144x5120_S3x2048x5120 :=
  (after3_v5 _).trans (congrArg (fun v => shapeCast S3x2048x5120 v shapeCasts_S6144x5120_S3x2048x5120) (W4_y m ρ c))
/-- The gradient at the activations. -/
theorem dx : W5 m ρ c (Proc.devRef .tc main_v6) = shapeCast S3x2048x17920 (prodDx (g m c) (kweights (w m c))) shapeCasts_S6144x17920_S3x2048x17920 :=
  (after3_v6 _).trans (congrArg (fun v => shapeCast S3x2048x17920 v shapeCasts_S6144x17920_S3x2048x17920) (W4_dx m ρ c))
/-- The gradient at the weights. -/
theorem dw : W5 m ρ c (Proc.devRef .tc main_v2_0) = prodDw (g m c) (x m c) :=
  (W5_of m ρ c main_v2_0 (by decide)).trans <| (W4_of m ρ c main_v2_0 (by decide)).trans <|
    (W3_of m ρ c main_v2_0 (by decide)).trans (W2_dw m ρ c)
/-- The codes. -/
theorem codes : W5 m ρ c (Proc.devRef .tc main_v2_1) = kcodes (w m c) :=
  (W5_of m ρ c main_v2_1 (by decide)).trans <| (W4_of m ρ c main_v2_1 (by decide)).trans <|
    (W3_of m ρ c main_v2_1 (by decide)).trans (W2_codes m ρ c)
/-- The scales. -/
theorem scales : W5 m ρ c (Proc.devRef .tc main_v7) = shapeCast S5120 (kscales (w m c)) shapeCasts_S5120x1_S5120 :=
  (after3_v7 _).trans (congrArg (fun v => shapeCast S5120 v shapeCasts_S5120x1_S5120) (W4_scales m ρ c))

end Cert.KernelIdeal.Final

end
-- ==== Proof.RefProducts.lean ====
/- The reference's three products, over batch and position, as sums over the flattened tokens. -/
module

public import proofs.«01_k».proof.Proof.Products
public import Idealize.ShloMosaic.Lib.Pipeline.ValueKit

@[expose] public section

set_option maxRecDepth 16384

noncomputable section

namespace Cert.RefProducts

open Idealize.ShloMosaic Cert.Products

variable {n : ℕ} {α : Type}

/-- The batch and the position of a token. -/
def tok (a : Fin 6144) (k : Fin n) : (⟨3, ![3, 2048, n]⟩ : Shape).Idx := ix3 (⟨a.val / 2048, by omega⟩ : Fin 3) (⟨a.val % 2048, by omega⟩ : Fin 2048) k

/-- An array over batch and position, flattened to tokens. -/
theorem flat (x : (⟨3, ![3, 2048, n]⟩ : Shape).Idx → α) (h : (⟨3, ![3, 2048, n]⟩ : Shape).ShapeCasts ⟨2, ![6144, n]⟩) (j : (⟨2, ![6144, n]⟩ : Shape).Idx) :
    shapeCast ⟨2, ![6144, n]⟩ x h j = x (tok (j 0) (j 1)) := by
  refine congrArg x (Shape.reshapeEquiv_eq_of_rowMajor h ?_)
  rw [Shape.rowMajor_val_three, Shape.rowMajor_val_two]
  show ((j 0).val / 2048 * 2048 + (j 0).val % 2048) * n + (j 1).val = (j 0).val * n + (j 1).val
  rw [Nat.div_add_mod']

/-- A sum over batches and positions is the sum over tokens. -/
theorem sum_tok (f : Fin 3 → Fin 2048 → EReal) (g : Fin 6144 → EReal)
    (h : ∀ a : Fin 6144, g a = f ⟨a.val / 2048, by omega⟩ ⟨a.val % 2048, by omega⟩) : ∑ b, ∑ s, f b s = ∑ a, g a := by
  refine Fin.sum_mul_add_congr fun s k hl => ?_
  rw [h]
  congr 1
  · exact Fin.ext (by show s.val = (s.val * 2048 + k.val) / 2048; omega)
  · exact Fin.ext (by show k.val = (s.val * 2048 + k.val) % 2048; omega)

end Cert.RefProducts

end
-- ==== Proof.RefRead.lean ====
/- The reference's three products are the sums over tokens that the calls leave. -/
module

public import proofs.«01_k».proof.Proof.RefProducts
public import proofs.«01_k».proof.Proof.Gen.ReferenceIdeal.Read

@[expose] public section

set_option maxRecDepth 16384

noncomputable section

namespace Cert.RefRead

open Idealize.ShloMosaic Cert.Products Cert.RefProducts

/-- The forward product, flattened to tokens. -/
theorem y (X : FVec Ideal Cert.ReferenceIdeal.S3x2048x17920 .bf16) (W : FVec Ideal SW .bf16)
    (h : (⟨3, ![3, 2048, 17920]⟩ : Shape).ShapeCasts SX) (h' : (⟨3, ![3, 2048, 5120]⟩ : Shape).ShapeCasts SG) (hb) :
    shapeCast SG (truncf .bf16 (Host.dotGeneral Cert.ReferenceIdeal.dot_S3x2048x17920_S5120x17920_S3x2048x5120_2_1_01_0_n_n none X W) hb) h'
      = prodY (shapeCast SX X h) W := by
  funext j
  rw [flat]
  unfold prodY
  simp only [flat]
  unfold tok
  pointwise []

/-- The input gradient, flattened to tokens. -/
theorem dx (G : FVec Ideal Cert.ReferenceIdeal.S3x2048x5120 .bf16) (W : FVec Ideal SW .bf16)
    (h : (⟨3, ![3, 2048, 5120]⟩ : Shape).ShapeCasts SG) (h' : (⟨3, ![3, 2048, 17920]⟩ : Shape).ShapeCasts SX) (hb) :
    shapeCast SX (truncf .bf16 (Host.dotGeneral Cert.ReferenceIdeal.dot_S3x2048x5120_S5120x17920_S3x2048x17920_2_0_01_1_n_n none G W) hb) h'
      = prodDx (shapeCast SG G h) W := by
  funext j
  rw [flat]
  unfold prodDx
  simp only [flat]
  unfold tok
  pointwise []

/-- The weight gradient. -/
theorem dw (G : FVec Ideal Cert.ReferenceIdeal.S3x2048x5120 .bf16) (X : FVec Ideal Cert.ReferenceIdeal.S3x2048x17920 .bf16)
    (h : (⟨3, ![3, 2048, 5120]⟩ : Shape).ShapeCasts SG) (h' : (⟨3, ![3, 2048, 17920]⟩ : Shape).ShapeCasts SX) :
    Host.dotGeneral (F := Ideal) Cert.ReferenceIdeal.dot_S3x2048x5120_S3x2048x17920_S5120x17920_01_01_2_2_n_n none G X
      = prodDw (shapeCast SG G h) (shapeCast SX X h') := by
  funext j
  unfold prodDw
  simp only [flat]
  refine Eq.trans (b := ∑ b : Fin 3, ∑ s : Fin 2048, G (ix3 b s (j 0)) * X (ix3 b s (j 1))) (by pointwise []) ?_
  exact sum_tok _ _ fun a => rfl

/-- The forward product over batch and position is the product over tokens, given back its batches. -/
theorem y_rows (X : FVec Ideal Cert.ReferenceIdeal.S3x2048x17920 .bf16) (W : FVec Ideal SW .bf16)
    (h : (⟨3, ![3, 2048, 17920]⟩ : Shape).ShapeCasts SX) (h' : SG.ShapeCasts ⟨3, ![3, 2048, 5120]⟩) (hb) :
    truncf .bf16 (Host.dotGeneral Cert.ReferenceIdeal.dot_S3x2048x17920_S5120x17920_S3x2048x5120_2_1_01_0_n_n none X W) hb
      = shapeCast ⟨3, ![3, 2048, 5120]⟩ (prodY (shapeCast SX X h) W) h' :=
  (shapeCast_shapeCast _ h'.symm h').symm.trans (congrArg (fun v => shapeCast _ v h') (y X W h h'.symm hb))

/-- The input gradient over batch and position is the one over tokens, given back its batches. -/
theorem dx_rows (G : FVec Ideal Cert.ReferenceIdeal.S3x2048x5120 .bf16) (W : FVec Ideal SW .bf16)
    (h : (⟨3, ![3, 2048, 5120]⟩ : Shape).ShapeCasts SG) (h' : SX.ShapeCasts ⟨3, ![3, 2048, 17920]⟩) (hb) :
    truncf .bf16 (Host.dotGeneral Cert.ReferenceIdeal.dot_S3x2048x5120_S5120x17920_S3x2048x17920_2_0_01_1_n_n none G W) hb
      = shapeCast ⟨3, ![3, 2048, 17920]⟩ (prodDx (shapeCast SG G h) W) h' :=
  (shapeCast_shapeCast _ h'.symm h').symm.trans (congrArg (fun v => shapeCast _ v h') (dx G W h h'.symm hb))

end Cert.RefRead

end
-- ==== Proof.lean ====
module

public import proofs.«01_k».proof.Defs
public import proofs.«01_k».proof.Proof.Gen.Kernel
public import proofs.«01_k».proof.Proof.Gen.KernelIdeal
public import proofs.«01_k».proof.Proof.Gen.KernelIdeal.Launch
public import proofs.«01_k».proof.Proof.Gen.KernelIdeal.Skeleton
public import proofs.«01_k».proof.Proof.Gen.KernelIdeal.Points
public import proofs.«01_k».proof.Proof.Gen.ReferenceIdeal.Frame
public import proofs.«01_k».proof.Proof.Gen.ReferenceIdeal.Run
public import proofs.«01_k».proof.Proof.Gen.ReferenceIdeal.Read
public import proofs.«01_k».proof.Proof.Gen.Pre_normal_rows
public import proofs.«01_k».proof.Proof.Gen.Dw
public import proofs.«01_k».proof.Proof.Gen.Dw.Skeleton
public import proofs.«01_k».proof.Proof.Gen.Dw.Launch
public import proofs.«01_k».proof.Proof.Gen.Dw.Points
public import proofs.«01_k».proof.Proof.Gen.Dw.Frame
public import proofs.«01_k».proof.Proof.Gen.DwIdeal
public import proofs.«01_k».proof.Proof.Gen.DwIdeal.Skeleton
public import proofs.«01_k».proof.Proof.Gen.DwIdeal.Launch
public import proofs.«01_k».proof.Proof.Gen.DwIdeal.Points
public import proofs.«01_k».proof.Proof.Gen.DwIdeal.Frame
public import proofs.«01_k».proof.Proof.Gen.DwRefIdeal
public import proofs.«01_k».proof.Proof.Gen.DwRefIdeal.Skeleton
public import proofs.«01_k».proof.Proof.Gen.DwRefIdeal.Launch
public import proofs.«01_k».proof.Proof.Gen.DwRefIdeal.Points
public import proofs.«01_k».proof.Proof.Gen.DwRefIdeal.Frame
public import proofs.«01_k».proof.Proof.Gen.Y
public import proofs.«01_k».proof.Proof.Gen.Y.Skeleton
public import proofs.«01_k».proof.Proof.Gen.Y.Launch
public import proofs.«01_k».proof.Proof.Gen.Y.Points
public import proofs.«01_k».proof.Proof.Gen.Y.Frame
public import proofs.«01_k».proof.Proof.Gen.YIdeal
public import proofs.«01_k».proof.Proof.Gen.YIdeal.Skeleton
public import proofs.«01_k».proof.Proof.Gen.YIdeal.Launch
public import proofs.«01_k».proof.Proof.Gen.YIdeal.Points
public import proofs.«01_k».proof.Proof.Gen.YIdeal.Frame
public import proofs.«01_k».proof.Proof.Gen.YRefIdeal
public import proofs.«01_k».proof.Proof.Gen.Dx
public import proofs.«01_k».proof.Proof.Gen.Dx.Skeleton
public import proofs.«01_k».proof.Proof.Gen.Dx.Launch
public import proofs.«01_k».proof.Proof.Gen.Dx.Points
public import proofs.«01_k».proof.Proof.Gen.Dx.Frame
public import proofs.«01_k».proof.Proof.Gen.DxIdeal
public import proofs.«01_k».proof.Proof.Gen.DxIdeal.Skeleton
public import proofs.«01_k».proof.Proof.Gen.DxIdeal.Launch
public import proofs.«01_k».proof.Proof.Gen.DxIdeal.Points
public import proofs.«01_k».proof.Proof.Gen.DxIdeal.Frame
public import proofs.«01_k».proof.Proof.Gen.DxRefIdeal
public import proofs.«01_k».proof.Proof.Gen.DwIdeal.Value
public import proofs.«01_k».proof.Proof.Gen.YIdeal.Value
public import proofs.«01_k».proof.Proof.Gen.DxIdeal.Value
public import proofs.«01_k».proof.Proof.Gen.DwRefIdeal.Run
public import proofs.«01_k».proof.Proof.Gen.DwRefIdeal.Read
public import proofs.«01_k».proof.Proof.Gen.YRefIdeal.Run
public import proofs.«01_k».proof.Proof.Gen.YRefIdeal.Read
public import proofs.«01_k».proof.Proof.Gen.DxRefIdeal.Run
public import proofs.«01_k».proof.Proof.Gen.DxRefIdeal.Read
public import proofs.«01_k».proof.Proof.Single.DwValue
public import proofs.«01_k».proof.Proof.Single.YValue
public import proofs.«01_k».proof.Proof.Single.DxValue
public import proofs.«01_k».proof.Proof.Single.RefRows
public import proofs.«01_k».proof.Proof.Final
public import proofs.«01_k».proof.Proof.RefRows
public import proofs.«01_k».proof.Proof.RefRead
public import Idealize.ShloMosaic.Lib.Claim

@[expose] public section

set_option maxRecDepth 16384

noncomputable section

namespace Cert.Proof

open Idealize.ShloMosaic Idealize.SL.Sem

/-- The kernel as printed and the kernel over the reals are one program, so the frame of the one, read at floats as
    bits, is the frame of the other. -/
theorem frame_eq : @Cert.quiescent_Kernel Cert.Kernel.Gen.facts
    = ∀ (m : (ℓ : Loc Cert.KernelIdeal.nD Cert.KernelIdeal.τ Cert.KernelIdeal.sig) → Buf (Elt Bits) ℓ) (g : Dev Cert.KernelIdeal.nD → PrngReg), True →
    θ_run (Cert.KernelIdeal.defs (F := Bits)) (onTc (τ := Cert.KernelIdeal.τ) (Cert.KernelIdeal.main (F := Bits))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0) := by
  sl_kernel_rfl

/-- The kernel as printed leaves its arguments as they were and every semaphore at zero. -/
theorem quiescent_kernel : @Cert.quiescent_Kernel Cert.Kernel.Gen.facts :=
  frame_eq.mpr fun m g _ => Cert.KernelIdeal.Calls.frame (F := Bits) m g

/-- The whole kernel over the reals computes the reference's five results. -/
theorem algebraic : Cert.algebraic_KernelIdeal_ReferenceIdeal_pre_normal_rows := by
  intro m g m' g' hpre hagree
  have hq := fun c => Cert.Quant.quantised (Cert.KernelIdeal.Final.w m c) (Cert.Pre_normal_rows.Rows.ok _ _ _ (fun j => congrFun (hpre c) j))
  refine ⟨fun c => _, fun c => _, fun c => _, fun c => _, fun c => _,
    (θ_run _ _ _).mono (fun r h c => ⟨
      (h.1 c Cert.KernelIdeal.main_v5 (by decide)).trans (Cert.KernelIdeal.Final.y m g c),
      (h.1 c Cert.KernelIdeal.main_v6 (by decide)).trans (Cert.KernelIdeal.Final.dx m g c),
      (h.1 c Cert.KernelIdeal.main_v2_0 (by decide)).trans (Cert.KernelIdeal.Final.dw m g c),
      (h.1 c Cert.KernelIdeal.main_v2_1 (by decide)).trans (Cert.KernelIdeal.Final.codes m g c),
      (h.1 c Cert.KernelIdeal.main_v7 (by decide)).trans (Cert.KernelIdeal.Final.scales m g c),
      (h.1 c Cert.KernelIdeal.main_arg0 (by decide)).trans (Cert.KernelIdeal.Calls.W5_untouched m g c _ (by decide)),
      (h.1 c Cert.KernelIdeal.main_arg1 (by decide)).trans (Cert.KernelIdeal.Calls.W5_untouched m g c _ (by decide)),
      (h.1 c Cert.KernelIdeal.main_arg2 (by decide)).trans (Cert.KernelIdeal.Calls.W5_untouched m g c _ (by decide))⟩)
      (Cert.KernelIdeal.Calls.run m g),
    (θ_run _ _ _).mono (fun r h c => ⟨(h c).1.trans ?_, (h c).2.1.trans ?_, (h c).2.2.1.trans ?_, (h c).2.2.2.1.trans ?_,
      (h c).2.2.2.2.1.trans ?_, (h c).2.2.2.2.2.1, (h c).2.2.2.2.2.2.1, (h c).2.2.2.2.2.2.2⟩) (Cert.ReferenceIdeal.Value.run m' g')⟩
  · refine (Cert.RefRead.y_rows _ _ _ _ _).trans (congrArg (fun v => shapeCast _ v _) (congrArg₂ Cert.Products.prodY (congrArg (fun v => shapeCast _ v _) (hagree c).1) ?_))
    exact (Cert.ReferenceIdeal.Val.final_weights m' c).trans ((congrArg Cert.Quant.rweights (hagree c).2.1).trans (hq c).2.2.symm)
  · refine (Cert.RefRead.dx_rows _ _ _ _ _).trans (congrArg (fun v => shapeCast _ v _) (congrArg₂ Cert.Products.prodDx (congrArg (fun v => shapeCast _ v _) (hagree c).2.2) ?_))
    exact (Cert.ReferenceIdeal.Val.final_weights m' c).trans ((congrArg Cert.Quant.rweights (hagree c).2.1).trans (hq c).2.2.symm)
  · exact (Cert.RefRead.dw _ _ _ _).trans (congrArg₂ Cert.Products.prodDw (congrArg (fun v => shapeCast _ v _) (hagree c).2.2) (congrArg (fun v => shapeCast _ v _) (hagree c).1))
  · exact (Cert.ReferenceIdeal.Val.final_codes m' c).trans ((congrArg Cert.Quant.rcodes (hagree c).2.1).trans (hq c).1.symm)
  · exact congrArg (fun v => shapeCast _ v _) ((Cert.ReferenceIdeal.Val.final_scales m' c).trans ((congrArg Cert.Quant.rscales (hagree c).2.1).trans (hq c).2.1.symm))

/-! ## The calls on their own -/

/-- The first call: the weight gradient, the codes, the scales and the weights out of both. -/
theorem algebraic_dw : Cert.algebraic_DwIdeal_DwRefIdeal_pre_normal_rows := by
  pair_intro
  · run_from Cert.DwIdeal.Gen.run_main m g
  · have hq := fun c => Cert.Quant.quantised _ (Cert.Pre_normal_rows.Rows.ok _ _ _ (fun j => congrFun (hpre c) j))
    refine (θ_run _ _ _).mono (fun r h c => ⟨(h c).1.trans ?_, (h c).2.1.trans ?_, (h c).2.2.1.trans ?_, (h c).2.2.2.1.trans ?_, (h c).2.2.2.2.1, (h c).2.2.2.2.2.1, (h c).2.2.2.2.2.2⟩)
      (Cert.DwRefIdeal.Value.run m' g')
    · refine Eq.trans ?_ (Cert.DwIdeal.Val.final_dw m c).symm
      rw [(hagree c).1, (hagree c).2.2]
      entry_read
      exact Cert.RefRead.dw _ _ _ _
    · refine (Cert.DwRefIdeal.Val.final_codes m' c).trans (Eq.trans ?_ (Cert.DwIdeal.Val.final_codes m c).symm)
      exact (congrArg Cert.Quant.rcodes (hagree c).2.1).trans (hq c).1.symm
    · refine (Cert.DwRefIdeal.Val.final_scales m' c).trans (Eq.trans ?_ (Cert.DwIdeal.Val.final_scales m c).symm)
      exact (congrArg Cert.Quant.rscales (hagree c).2.1).trans (hq c).2.1.symm
    · refine (Cert.DwRefIdeal.Val.final_weights m' c).trans (Eq.trans ?_ (Cert.DwIdeal.Val.final_weights m c).symm)
      exact (congrArg Cert.Quant.rweights (hagree c).2.1).trans (hq c).2.2.symm

/-- The second call: the forward product. -/
theorem algebraic_y : Cert.algebraic_YIdeal_YRefIdeal := by
  pair_intro
  · run_from Cert.YIdeal.Gen.run_main m g
  · refine (θ_run _ _ _).mono (fun r h c => ⟨(h c).1.trans ?_, (h c).2.1, (h c).2.2⟩) (Cert.YRefIdeal.Value.run m' g')
    refine Eq.trans ?_ (Cert.YIdeal.Val.final m c).symm
    rw [(hagree c).1, (hagree c).2]
    entry_read
    exact Cert.RefRead.y _ _ _ _ _

/-- The third call: the input gradient. -/
theorem algebraic_dx : Cert.algebraic_DxIdeal_DxRefIdeal := by
  pair_intro
  · run_from Cert.DxIdeal.Gen.run_main m g
  · refine (θ_run _ _ _).mono (fun r h c => ⟨(h c).1.trans ?_, (h c).2.1, (h c).2.2⟩) (Cert.DxRefIdeal.Value.run m' g')
    refine Eq.trans ?_ (Cert.DxIdeal.Val.final m c).symm
    rw [(hagree c).1, (hagree c).2]
    entry_read
    exact Cert.RefRead.dx _ _ _ _ _

/-- The reference of the second call leaves its arguments as they were and every semaphore at zero. -/
theorem quiescent_yref : Cert.quiescent_YRefIdeal := fun m g _ =>
  (θ_run _ _ _).mono (fun r h => ⟨fun c => ⟨(h c).2.1, (h c).2.2⟩, sem_eq_zero_of_no_sems (by decide) _⟩) (Cert.YRefIdeal.Value.run m g)

/-- The reference of the third call leaves its arguments as they were and every semaphore at zero. -/
theorem quiescent_dxref : Cert.quiescent_DxRefIdeal := fun m g _ =>
  (θ_run _ _ _).mono (fun r h => ⟨fun c => ⟨(h c).2.1, (h c).2.2⟩, sem_eq_zero_of_no_sems (by decide) _⟩) (Cert.DxRefIdeal.Value.run m g)

theorem claim : Cert.Claim := ⟨Cert.Kernel.Gen.facts, Cert.KernelIdeal.Gen.facts, Cert.ReferenceIdeal.Gen.facts, Cert.Dw.Gen.facts, Cert.DwIdeal.Gen.facts, Cert.DwRefIdeal.Gen.facts, Cert.Y.Gen.facts, Cert.YIdeal.Gen.facts, Cert.YRefIdeal.Gen.facts, Cert.Dx.Gen.facts, Cert.DxIdeal.Gen.facts, Cert.DxRefIdeal.Gen.facts, Cert.Pre_normal_rows.Gen.facts,
  quiescent_kernel, fun m ρ _ => Cert.KernelIdeal.Calls.frame m ρ, fun m ρ _ => Cert.KernelIdeal.Calls.frame m ρ, fun m ρ _ => Cert.ReferenceIdeal.Gen.frame m ρ, fun m ρ _ => Cert.ReferenceIdeal.Gen.frame m ρ,
  fun m ρ _ => Cert.Dw.Gen.frame m ρ, fun m ρ _ => Cert.DwIdeal.Gen.frame m ρ, fun m ρ _ => Cert.DwIdeal.Gen.frame m ρ,
  fun m ρ _ => Cert.DwRefIdeal.Gen.frame m ρ, fun m ρ _ => Cert.DwRefIdeal.Gen.frame m ρ,
  fun m ρ _ => Cert.Y.Gen.frame m ρ, fun m ρ _ => Cert.YIdeal.Gen.frame m ρ, quiescent_yref,
  fun m ρ _ => Cert.Dx.Gen.frame m ρ, fun m ρ _ => Cert.DxIdeal.Gen.frame m ρ, quiescent_dxref,
  trivial, trivial, trivial, trivial, algebraic, algebraic_dw, algebraic_y, algebraic_dx⟩

end Cert.Proof

end
